-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xD01502F9#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x8192x768 : Shape := ⟨3, ![2, 8192, 768]⟩
abbrev S768x768 : Shape := ⟨2, ![768, 768]⟩
abbrev S_ : Shape := ⟨0, ![]⟩

class Facts : Prop where
  bcast_S_S2x8192x768 : S_.BroadcastsInDim S2x8192x768 (![] : Fin 0 → Fin S2x8192x768.rank)
  reducesTo_S2x8192x768_S_d0_1_2 : S2x8192x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_arg4 : FVec F S768x768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  main_v23

def fn {F : FTy → Type} [FloatOps F] (main_arg0 : FVec F S2x8192x768 .f32) (main_arg1 : FVec F S768x768 .f32) (main_arg2 : FVec F S768x768 .f32) (main_arg3 : FVec F S768x768 .f32) (main_arg4 : FVec F S768x768 .f32) : IVec S_ 1 :=
  let main_v0 : FVec F S2x8192x768 .f32 := Host.absf main_arg0
  let main_cst : FVec F S_ .f32 := constant S_ .f32 0x7F800000#32
  let main_v1 : FVec F S2x8192x768 .f32 := broadcastInDim S2x8192x768 ![] bcast_S_S2x8192x768 main_cst
  let main_v2 : IVec S2x8192x768 1 := cmpf .olt main_v0 main_v1
  let main_c : IVec S_ 1 := constantI S_ 1 1#1
  let main_v3 : IVec S_ 1 := (fun x v => Host.reduce IntOp.andi x v reducesTo_S2x8192x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S2x8192x768 : Shape := ⟨3, ![2, 8192, 768]⟩
abbrev S768x768 : Shape := ⟨2, ![768, 768]⟩
abbrev S1x16x768 : Shape := ⟨3, ![1, 16, 768]⟩
abbrev S1x2048x768 : Shape := ⟨3, ![1, 2048, 768]⟩
abbrev S768x384 : Shape := ⟨2, ![768, 384]⟩
abbrev S384x768 : Shape := ⟨2, ![384, 768]⟩
abbrev S768x192 : Shape := ⟨2, ![768, 192]⟩
abbrev S192x768 : Shape := ⟨2, ![192, 768]⟩
abbrev S384x384 : Shape := ⟨2, ![384, 384]⟩
abbrev S192x192 : Shape := ⟨2, ![192, 192]⟩
abbrev S16x768 : Shape := ⟨2, ![16, 768]⟩
abbrev S32x768 : Shape := ⟨2, ![32, 768]⟩
abbrev S768x32 : Shape := ⟨2, ![768, 32]⟩
abbrev S768x16 : Shape := ⟨2, ![768, 16]⟩
abbrev S2048x768 : Shape := ⟨2, ![2048, 768]⟩
abbrev S2048x192 : Shape := ⟨2, ![2048, 192]⟩
abbrev S2048 : Shape := ⟨1, ![2048]⟩
abbrev S2048x1 : Shape := ⟨2, ![2048, 1]⟩
abbrev S16x384 : Shape := ⟨2, ![16, 384]⟩
abbrev S16 : Shape := ⟨1, ![16]⟩
abbrev S16x1 : Shape := ⟨2, ![16, 1]⟩

abbrev nBuf : Space → Nat
  | .hbm => 6
  | .vmem => 18
  | .smem => 0
  | _ => 0

abbrev bufTy : (tb : Table) → Fin (tcTables nBuf tb) → BufTy
  | .hbm, ⟨0, _⟩ => ⟨S2x8192x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S2x8192x768, .f32⟩
  | .local _ .vmem, ⟨0, _⟩ => ⟨S1x16x768, .f32⟩
  | .local _ .vmem, ⟨1, _⟩ => ⟨S1x16x768, .f32⟩
  | .local _ .vmem, ⟨2, _⟩ => ⟨S1x16x768, .f32⟩
  | .local _ .vmem, ⟨3, _⟩ => ⟨S1x16x768, .f32⟩
  | .local _ .vmem, ⟨4, _⟩ => ⟨S1x2048x768, .f32⟩
  | .local _ .vmem, ⟨5, _⟩ => ⟨S1x2048x768, .f32⟩
  | .local _ .vmem, ⟨6, _⟩ => ⟨S768x768, .f32⟩
  | .local _ .vmem, ⟨7, _⟩ => ⟨S768x768, .f32⟩
  | .local _ .vmem, ⟨8, _⟩ => ⟨S768x768, .f32⟩
  | .local _ .vmem, ⟨9, _⟩ => ⟨S768x768, .f32⟩
  | .local _ .vmem, ⟨10, _⟩ => ⟨S1x2048x768, .f32⟩
  | .local _ .vmem, ⟨11, _⟩ => ⟨S1x2048x768, .f32⟩
  | .local _ .vmem, ⟨12, _⟩ => ⟨S768x384, .f32⟩
  | .local _ .vmem, ⟨13, _⟩ => ⟨S384x768, .f32⟩
  | .local _ .vmem, ⟨14, _⟩ => ⟨S768x192, .f32⟩
  | .local _ .vmem, ⟨15, _⟩ => ⟨S192x768, .f32⟩
  | .local _ .vmem, ⟨16, _⟩ => ⟨S384x384, .f32⟩
  | .local _ .vmem, ⟨17, _⟩ => ⟨S192x192, .f32⟩
  | _, _ => ⟨S2x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let v7 : BitVec 32 := Scalar.extui v6
  let c0_i32_4 : BitVec 32 := 0#32
  let v8 : BitVec 1 := Scalar.cmpi .ne v7 c0_i32_4
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_5 : BitVec 32 := 0#32
  let v11 : BitVec 1 := Scalar.cmpi .ne v10 c0_i32_5
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c511_i32 : BitVec 32 := 511#32
  let c0_i32 : BitVec 32 := 0#32
  let c0_i32_0 : BitVec 32 := 0#32
  ![arg0.toNat, c511_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8192x768 : Shape := ⟨3, ![2, 8192, 768]⟩
abbrev S768x768 : Shape := ⟨2, ![768, 768]⟩
abbrev S2x8192x12x64 : Shape := ⟨4, ![2, 8192, 12, 64]⟩
abbrev S2x12x8192x64 : Shape := ⟨4, ![2, 12, 8192, 64]⟩
abbrev S_ : Shape := ⟨0, ![]⟩
abbrev S2x12x2 : Shape := ⟨3, ![2, 12, 2]⟩
abbrev S1 : Shape := ⟨1, ![1]⟩
abbrev S2x12 : Shape := ⟨2, ![2, 12]⟩
abbrev S16 : Shape := ⟨1, ![16]⟩
abbrev S1x1x1x16 : Shape := ⟨4, ![1, 1, 1, 16]⟩
abbrev S2x12x2x1 : Shape := ⟨4, ![2, 12, 2, 1]⟩
abbrev S2x12x2x16 : Shape := ⟨4, ![2, 12, 2, 16]⟩
abbrev S2x12x32 : Shape := ⟨3, ![2, 12, 32]⟩
abbrev S2x12x32x1 : Shape := ⟨4, ![2, 12, 32, 1]⟩
abbrev S1x1x1x1 : Shape := ⟨4, ![1, 1, 1, 1]⟩
abbrev S2x12x32x64 : Shape := ⟨4, ![2, 12, 32, 64]⟩
abbrev S2x12x8192x32 : Shape := ⟨4, ![2, 12, 8192, 32]⟩
abbrev S8192 : Shape := ⟨1, ![8192]⟩
abbrev S1x1x8192x1 : Shape := ⟨4, ![1, 1, 8192, 1]⟩
abbrev S2x12x1x32 : Shape := ⟨4, ![2, 12, 1, 32]⟩
abbrev S2x12x8192 : Shape := ⟨3, ![2, 12, 8192]⟩
abbrev S2x12x8192x1 : Shape := ⟨4, ![2, 12, 8192, 1]⟩

abbrev nBuf : Space → Nat
  | .hbm => 110
  | .vmem => 0
  | .smem => 0
  | _ => 0

abbrev bufTy : (tb : Table) → Fin (tcTables nBuf tb) → BufTy
  | .hbm, ⟨0, _⟩ => ⟨S2x8192x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S2x8192x768, .f32⟩
  | .hbm, ⟨6, _⟩ => ⟨S2x8192x12x64, .f32⟩
  | .hbm, ⟨7, _⟩ => ⟨S2x8192x768, .f32⟩
  | .hbm, ⟨8, _⟩ => ⟨S2x8192x12x64, .f32⟩
  | .hbm, ⟨9, _⟩ => ⟨S2x8192x768, .f32⟩
  | .hbm, ⟨10, _⟩ => ⟨S2x8192x12x64, .f32⟩
  | .hbm, ⟨11, _⟩ => ⟨S2x12x8192x64, .f32⟩
  | .hbm, ⟨12, _⟩ => ⟨S2x12x8192x64, .f32⟩
  | .hbm, ⟨13, _⟩ => ⟨S2x12x8192x64, .f32⟩
  | .hbm, ⟨14, _⟩ => ⟨S_, .i32⟩
  | .hbm, ⟨15, _⟩ => ⟨S2x12x2, .i32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S2x12, .i32⟩
  | .hbm, ⟨20, _⟩ => ⟨S2x12x2, .i32⟩
  | .hbm, ⟨21, _⟩ => ⟨S16, .i32⟩
  | .hbm, ⟨22, _⟩ => ⟨S1x1x1x16, .i32⟩
  | .hbm, ⟨23, _⟩ => ⟨S2x12x2x1, .i32⟩
  | .hbm, ⟨24, _⟩ => ⟨S_, .i32⟩
  | .hbm, ⟨25, _⟩ => ⟨S2x12x2x1, .i32⟩
  | .hbm, ⟨26, _⟩ => ⟨S2x12x2x1, .i32⟩
  | .hbm, ⟨27, _⟩ => ⟨S2x12x2x16, .i32⟩
  | .hbm, ⟨28, _⟩ => ⟨S2x12x2x16, .i32⟩
  | .hbm, ⟨29, _⟩ => ⟨S2x12x2x16, .i32⟩
  | .hbm, ⟨30, _⟩ => ⟨S2x12x32, .i32⟩
  | .hbm, ⟨31, _⟩ => ⟨S2x12x32x1, .i32⟩
  | .hbm, ⟨32, _⟩ => ⟨S_, .i32⟩
  | .hbm, ⟨33, _⟩ => ⟨S2x12x32x1, .i32⟩
  | .hbm, ⟨34, _⟩ => ⟨S2x12x32x1, .i1⟩
  | .hbm, ⟨35, _⟩ => ⟨S_, .i32⟩
  | .hbm, ⟨36, _⟩ => ⟨S2x12x32x1, .i32⟩
  | .hbm, ⟨37, _⟩ => ⟨S2x12x32x1, .i32⟩
  | .hbm, ⟨38, _⟩ => ⟨S2x12x32x1, .i32⟩
  | .hbm, ⟨39, _⟩ => ⟨S1, .i32⟩
  | .hbm, ⟨40, _⟩ => ⟨S_, .i32⟩
  | .hbm, ⟨41, _⟩ => ⟨S2x12x32x1, .i32⟩
  | .hbm, ⟨42, _⟩ => ⟨S2x12x32x1, .i1⟩
  | .hbm, ⟨43, _⟩ => ⟨S1x1x1x1, .i32⟩
  | .hbm, ⟨44, _⟩ => ⟨S2x12x32x1, .i32⟩
  | .hbm, ⟨45, _⟩ => ⟨S2x12x32x1, .i1⟩
  | .hbm, ⟨46, _⟩ => ⟨S2x12x32x1, .i1⟩
  | .hbm, ⟨47, _⟩ => ⟨S_, .i1⟩
  | .hbm, ⟨48, _⟩ => ⟨S2x12x32, .i1⟩
  | .hbm, ⟨49, _⟩ => ⟨S2x12x32x64, .f32⟩
  | .hbm, ⟨50, _⟩ => ⟨S2x12x32x64, .i1⟩
  | .hbm, ⟨51, _⟩ => ⟨S_, .f32⟩
  | .hbm, ⟨52, _⟩ => ⟨S2x12x32x64, .f32⟩
  | .hbm, ⟨53, _⟩ => ⟨S2x12x32x64, .f32⟩
  | .hbm, ⟨54, _⟩ => ⟨S2x12x32x1, .i32⟩
  | .hbm, ⟨55, _⟩ => ⟨S_, .i32⟩
  | .hbm, ⟨56, _⟩ => ⟨S2x12x32x1, .i32⟩
  | .hbm, ⟨57, _⟩ => ⟨S2x12x32x1, .i1⟩
  | .hbm, ⟨58, _⟩ => ⟨S_, .i32⟩
  | .hbm, ⟨59, _⟩ => ⟨S2x12x32x1, .i32⟩
  | .hbm, ⟨60, _⟩ => ⟨S2x12x32x1, .i32⟩
  | .hbm, ⟨61, _⟩ => ⟨S2x12x32x1, .i32⟩
  | .hbm, ⟨62, _⟩ => ⟨S1, .i32⟩
  | .hbm, ⟨63, _⟩ => ⟨S_, .i32⟩
  | .hbm, ⟨64, _⟩ => ⟨S2x12x32x1, .i32⟩
  | .hbm, ⟨65, _⟩ => ⟨S2x12x32x1, .i1⟩
  | .hbm, ⟨66, _⟩ => ⟨S1x1x1x1, .i32⟩
  | .hbm, ⟨67, _⟩ => ⟨S2x12x32x1, .i32⟩
  | .hbm, ⟨68, _⟩ => ⟨S2x12x32x1, .i1⟩
  | .hbm, ⟨69, _⟩ => ⟨S2x12x32x1, .i1⟩
  | .hbm, ⟨70, _⟩ => ⟨S_, .i1⟩
  | .hbm, ⟨71, _⟩ => ⟨S2x12x32, .i1⟩
  | .hbm, ⟨72, _⟩ => ⟨S2x12x32x64, .f32⟩
  | .hbm, ⟨73, _⟩ => ⟨S2x12x32x64, .i1⟩
  | .hbm, ⟨74, _⟩ => ⟨S_, .f32⟩
  | .hbm, ⟨75, _⟩ => ⟨S2x12x32x64, .f32⟩
  | .hbm, ⟨76, _⟩ => ⟨S2x12x32x64, .f32⟩
  | .hbm, ⟨77, _⟩ => ⟨S2x12x8192x32, .f32⟩
  | .hbm, ⟨78, _⟩ => ⟨S_, .f32⟩
  | .hbm, ⟨79, _⟩ => ⟨S_, .f32⟩
  | .hbm, ⟨80, _⟩ => ⟨S2x12x8192x32, .f32⟩
  | .hbm, ⟨81, _⟩ => ⟨S2x12x8192x32, .f32⟩
  | .hbm, ⟨82, _⟩ => ⟨S8192, .i32⟩
  | .hbm, ⟨83, _⟩ => ⟨S1x1x8192x1, .i32⟩
  | .hbm, ⟨84, _⟩ => ⟨S2x12x1x32, .i32⟩
  | .hbm, ⟨85, _⟩ => ⟨S2x12x8192x32, .i32⟩
  | .hbm, ⟨86, _⟩ => ⟨S2x12x8192x32, .i32⟩
  | .hbm, ⟨87, _⟩ => ⟨S2x12x8192x32, .i1⟩
  | .hbm, ⟨88, _⟩ => ⟨S_, .f32⟩
  | .hbm, ⟨89, _⟩ => ⟨S_, .f32⟩
  | .hbm, ⟨90, _⟩ => ⟨S2x12x8192x32, .f32⟩
  | .hbm, ⟨91, _⟩ => ⟨S2x12x8192x32, .f32⟩
  | .hbm, ⟨92, _⟩ => ⟨S_, .f32⟩
  | .hbm, ⟨93, _⟩ => ⟨S2x12x8192, .f32⟩
  | .hbm, ⟨94, _⟩ => ⟨S_, .f32⟩
  | .hbm, ⟨95, _⟩ => ⟨S2x12x8192, .f32⟩
  | .hbm, ⟨96, _⟩ => ⟨S2x12x8192, .f32⟩
  | .hbm, ⟨97, _⟩ => ⟨S2x12x8192x1, .f32⟩
  | .hbm, ⟨98, _⟩ => ⟨S2x12x8192x32, .f32⟩
  | .hbm, ⟨99, _⟩ => ⟨S2x12x8192x32, .f32⟩
  | .hbm, ⟨100, _⟩ => ⟨S2x12x8192x32, .f32⟩
  | .hbm, ⟨101, _⟩ => ⟨S_, .f32⟩
  | .hbm, ⟨102, _⟩ => ⟨S2x12x8192, .f32⟩
  | .hbm, ⟨103, _⟩ => ⟨S2x12x8192x1, .f32⟩
  | .hbm, ⟨104, _⟩ => ⟨S2x12x8192x32, .f32⟩
  | .hbm, ⟨105, _⟩ => ⟨S2x12x8192x32, .f32⟩
  | .hbm, ⟨106, _⟩ => ⟨S2x12x8192x64, .f32⟩
  | .hbm, ⟨107, _⟩ => ⟨S2x8192x12x64, .f32⟩
  | .hbm, ⟨108, _⟩ => ⟨S2x8192x768, .f32⟩
  | .hbm, ⟨109, _⟩ => ⟨S2x8192x768, .f32⟩
  | _, _ => ⟨S2x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_c_2 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_c_3 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_cst : Ref sig .tc := ⟨.hbm, 51, rfl⟩
abbrev main_call0_v14 : Ref sig .tc := ⟨.hbm, 52, rfl⟩
abbrev main_v23 : Ref sig .tc := ⟨.hbm, 53, rfl⟩
abbrev main_v24 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_1 : Ref sig .tc := ⟨.hbm, 62, rfl⟩
abbrev main_call1_c_2 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_c_3 : Ref sig .tc := ⟨.hbm, 70, rfl⟩
abbrev main_call1_v11 : Ref sig .tc := ⟨.hbm, 71, rfl⟩
abbrev main_call1_v12 : Ref sig .tc := ⟨.hbm, 72, rfl⟩
abbrev main_call1_v13 : Ref sig .tc := ⟨.hbm, 73, rfl⟩
abbrev main_call1_cst : Ref sig .tc := ⟨.hbm, 74, rfl⟩
abbrev main_call1_v14 : Ref sig .tc := ⟨.hbm, 75, rfl⟩
abbrev main_v25 : Ref sig .tc := ⟨.hbm, 76, rfl⟩
abbrev main_v26 : Ref sig .tc := ⟨.hbm, 77, rfl⟩
abbrev main_cst : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_cst_3 : Ref sig .tc := ⟨.hbm, 88, rfl⟩
abbrev main_call2_v0 : Ref sig .tc := ⟨.hbm, 89, rfl⟩
abbrev main_call2_v1 : Ref sig .tc := ⟨.hbm, 90, rfl⟩
abbrev main_v36 : Ref sig .tc := ⟨.hbm, 91, rfl⟩
abbrev main_cst_4 : Ref sig .tc := ⟨.hbm, 92, rfl⟩
abbrev main_v37 : Ref sig .tc := ⟨.hbm, 93, rfl⟩
abbrev main_cst_5 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_cst_6 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩

abbrev nD : Nat := 1
abbrev τ : Topo := Topo.v7x

variable {F : FTy → Type} [FloatOps F]
-- ==== Proof.Blocks.lean ====
module

public import proofs.«01_k».proof.Proof.Gen.KernelIdeal.Value
public import Idealize.ShloMosaic.Lib.Tactic
public import Idealize.ShloMosaic.Lib.ValueIdx

@[expose] public section

/-! What the kernel's body leaves in the output block and in the six carried scratch arrays, in each of the three cases
    of a grid point: A is the first tile of a batch (the scratch is prepared), C the last tile (the last sixteen rows are
    recomputed over both key tiles), B a tile in between. -/

set_option maxRecDepth 16384

noncomputable section

namespace Cert.KernelIdeal.Attn

open Idealize.ShloMosaic.ValueIdx Cert.KernelIdeal Cert.KernelIdeal.Gen Idealize.ShloMosaic Idealize.ShloMosaic.TcCoe Idealize.SL.Sem

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The prepared arrays as functions of the two key tiles and the weights -/

/-- The first tile's keys, transposed and laid out block-diagonally by head: 768 × 192. -/
def kbdA (x0 x1 : Vec F S1x16x768 .f32) (wk : Vec F S768x768 .f32) : FVec F S768x192 .f32 :=
  k0_pay12 (k0_pay7 x0 x1 wk) k0_pay8 (iota .tc S768x192 32 [1] iota_S768x192_d1_w32) 16#32 k0_pay9 k0_pay10 k0_pay11

/-- The scaled query-key matrix of both tiles: 768 × 384. -/
def qkW (x0 x1 : Vec F S1x16x768 .f32) (wq wk : Vec F S768x768 .f32) : FVec F S768x384 .f32 :=
  k0_pay16 (kbdA x0 x1 wk) (k0_pay13 (k0_pay6 x0 x1 wk)) k0_pay14 wq wq

/-- The scaled query-key matrix of the first tile: 768 × 192. -/
def qkH (x0 x1 : Vec F S1x16x768 .f32) (wq wk : Vec F S768x768 .f32) : FVec F S768x192 .f32 :=
  k0_pay17 (k0_pay15 (kbdA x0 x1 wk) wq)

/-- The first tile's values laid out block-diagonally by head: 192 × 768. -/
def vbdA (x0 x1 : Vec F S1x16x768 .f32) (wv : Vec F S768x768 .f32) : FVec F S192x768 .f32 :=
  k0_pay23 (k0_pay19 (k0_pay5 x0 x1) wv) k0_pay20 (iota .tc S192x768 32 [1] iota_S192x768_d1_w32) 64#32 k0_pay21 k0_pay22 1#32

/-- The values of both tiles carried through the output weight: 384 × 768. -/
def voW (x0 x1 : Vec F S1x16x768 .f32) (wv wo : Vec F S768x768 .f32) : FVec F S384x768 .f32 :=
  k0_pay29 (vbdA x0 x1 wv) (k0_pay24 (k0_pay18 (k0_pay5 x0 x1) wv)) k0_pay25
    (iota .tc S192x768 32 [1] iota_S192x768_d1_w32) 64#32 k0_pay26 k0_pay27 wo wo

/-- The first tile's values carried through the output weight: 192 × 768. -/
def voH (x0 x1 : Vec F S1x16x768 .f32) (wv wo : Vec F S768x768 .f32) : FVec F S192x768 .f32 :=
  k0_pay30 (vbdA x0 x1 wv) wo

/-- The zero-one matrix that sums each head's columns, both tiles: 384 × 384. -/
def ggW : FVec F S384x384 .f32 :=
  k0_pay35 (k0_pay31 (iota .tc S384x384 32 [0] iota_S384x384_d0_w32) 192#32) 192#32
    (k0_pay32 (iota .tc S384x384 32 [1] iota_S384x384_d1_w32)) (k0_pay33 (iota .tc S384x384 32 [1] iota_S384x384_d1_w32)) k0_pay34

/-- The zero-one matrix that sums each head's columns, first tile: 192 × 192. -/
def ggH : FVec F S192x192 .f32 :=
  k0_pay1 (k0_pay38 (iota .tc S192x192 32 [0] iota_S192x192_d0_w32) (iota .tc S192x192 32 [1] iota_S192x192_d1_w32) 16#32
    k0_pay36 k0_pay37) (FloatOps.ofBits .f32 1065353216#32) (FloatOps.ofBits .f32 0#32)

/-- The last sixteen rows of the last tile, recomputed over both key tiles. -/
def fixup (y : Vec F S1x16x768 .f32) (qk : Vec F S768x384 .f32) (gg : Vec F S384x384 .f32) (vo : Vec F S384x768 .f32) :
    FVec F S1x16x768 .f32 :=
  k0_pay4 (k0_pay40 y qk) k0_pay41 k0_pay42 k0_pay43 k0_pay44 k0_pay45 k0_pay46 gg vo

/-- The last sixteen rows of a query tile. -/
def tail16 (x : Vec F S1x2048x768 .f32) : Vec F S1x16x768 .f32 :=
  fun j => x (ix3 (0 : Fin 1) (⟨2032 + (j 1).val, by have : (j 1).val < 16 := (j 1).isLt; omega⟩ : Fin 2048) (j 2))

/-- A last tile's output block: the unmasked stream, but for the last sixteen rows, which are the recomputed ones. -/
def outLast (x : Vec F S1x2048x768 .f32) (qk : Vec F S768x384 .f32) (vo : Vec F S384x768 .f32) (qk1 : Vec F S768x192 .f32)
    (vo1 : Vec F S192x768 .f32) (gg : Vec F S384x384 .f32) (gg1 : Vec F S192x192 .f32) : Vec F S1x2048x768 .f32 :=
  fun y => if h : 2032 ≤ (y 1).val then
      fixup (tail16 x) qk gg vo (ix3 (0 : Fin 1) (⟨(y 1).val - 2032, by have : (y 1).val < 2048 := (y 1).isLt; omega⟩ : Fin 16) (y 2))
    else k0_pay3 x qk1 gg1 vo1 y

/-! ## The case values -/

/-- Case A leaves in scratch 0 the scaled query-key matrix of both tiles. -/
theorem sout0_A_0_eq (c : Dev nD) (i : grid0.Coords) (a2 : Memref sig .tc .vmem S1x16x768 .f32) (h2 : a2.IsWhole)
    (a3 : Memref sig .tc .vmem S1x16x768 .f32) (h3 : a3.IsWhole)
    (a4 : Memref sig .tc .vmem S1x2048x768 .f32) (h4 : a4.IsWhole)
    (a5 : Memref sig .tc .vmem S768x768 .f32) (h5 : a5.IsWhole)
    (a6 : Memref sig .tc .vmem S768x768 .f32) (h6 : a6.IsWhole)
    (a7 : Memref sig .tc .vmem S768x768 .f32) (h7 : a7.IsWhole)
    (a8 : Memref sig .tc .vmem S768x768 .f32) (h8 : a8.IsWhole)
    (a9 : Memref sig .tc .vmem S1x2048x768 .f32) (h9 : a9.IsWhole)
    (a10 : Memref sig .tc .vmem S768x384 .f32) (h10 : a10.IsWhole)
    (a11 : Memref sig .tc .vmem S384x768 .f32) (h11 : a11.IsWhole)
    (a12 : Memref sig .tc .vmem S768x192 .f32) (h12 : a12.IsWhole)
    (a13 : Memref sig .tc .vmem S192x768 .f32) (h13 : a13.IsWhole)
    (a14 : Memref sig .tc .vmem S384x384 .f32) (h14 : a14.IsWhole)
    (a15 : Memref sig .tc .vmem S192x192 .f32) (h15 : a15.IsWhole)
    (hc0 : cond0_0 i) (hc1 : cond0_1 i) (hc2 : ¬cond0_2 i) (hc3 : ¬cond0_3 i)
    (x0 : Vec F S1x16x768 .f32) (x1 : Vec F S1x16x768 .f32) (x2 : Vec F S1x2048x768 .f32) (x3 : Vec F S768x768 .f32) (x4 : Vec F S768x768 .f32) (x5 : Vec F S768x768 .f32) (x6 : Vec F S768x768 .f32) :
    sout0_A_0 c i a2 h2 a3 h3 a4 h4 a5 h5 a6 h6 a7 h7 a8 h8 a9 h9 a10 h10 a11 h11 a12 h12 a13 h13 a14 h14 a15 h15 hc0 hc1 hc2 hc3 x0 x1 x2 x3 x4 x5 x6
      = qkW x0 x1 x3 x4 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 hc0 hc1 hc2 hc3 x0 x1 x2 x3 x4 x5 x6)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread]
  rw [View.canon_unit_zero (S := S768x384) hz2]
  simp only [View.ld_unit_zero (S := S1x16x768) hz3, View.ld_unit_zero (S := S1x2048x768) hz3, View.ld_unit_zero (S := S768x768) hz2, View.ld_unit_zero (S := S768x384) hz2, View.ld_unit_zero (S := S384x768) hz2, View.ld_unit_zero (S := S768x192) hz2, View.ld_unit_zero (S := S192x768) hz2, View.ld_unit_zero (S := S384x384) hz2, View.ld_unit_zero (S := S192x192) hz2]
  rfl

/-- Case A leaves in scratch 1 both tiles' values through the output weight. -/
theorem sout0_A_1_eq (c : Dev nD) (i : grid0.Coords) (a2 : Memref sig .tc .vmem S1x16x768 .f32) (h2 : a2.IsWhole)
    (a3 : Memref sig .tc .vmem S1x16x768 .f32) (h3 : a3.IsWhole)
    (a4 : Memref sig .tc .vmem S1x2048x768 .f32) (h4 : a4.IsWhole)
    (a5 : Memref sig .tc .vmem S768x768 .f32) (h5 : a5.IsWhole)
    (a6 : Memref sig .tc .vmem S768x768 .f32) (h6 : a6.IsWhole)
    (a7 : Memref sig .tc .vmem S768x768 .f32) (h7 : a7.IsWhole)
    (a8 : Memref sig .tc .vmem S768x768 .f32) (h8 : a8.IsWhole)
    (a9 : Memref sig .tc .vmem S1x2048x768 .f32) (h9 : a9.IsWhole)
    (a10 : Memref sig .tc .vmem S768x384 .f32) (h10 : a10.IsWhole)
    (a11 : Memref sig .tc .vmem S384x768 .f32) (h11 : a11.IsWhole)
    (a12 : Memref sig .tc .vmem S768x192 .f32) (h12 : a12.IsWhole)
    (a13 : Memref sig .tc .vmem S192x768 .f32) (h13 : a13.IsWhole)
    (a14 : Memref sig .tc .vmem S384x384 .f32) (h14 : a14.IsWhole)
    (a15 : Memref sig .tc .vmem S192x192 .f32) (h15 : a15.IsWhole)
    (hc0 : cond0_0 i) (hc1 : cond0_1 i) (hc2 : ¬cond0_2 i) (hc3 : ¬cond0_3 i)
    (x0 : Vec F S1x16x768 .f32) (x1 : Vec F S1x16x768 .f32) (x2 : Vec F S1x2048x768 .f32) (x3 : Vec F S768x768 .f32) (x4 : Vec F S768x768 .f32) (x5 : Vec F S768x768 .f32) (x6 : Vec F S768x768 .f32) :
    sout0_A_1 c i a2 h2 a3 h3 a4 h4 a5 h5 a6 h6 a7 h7 a8 h8 a9 h9 a10 h10 a11 h11 a12 h12 a13 h13 a14 h14 a15 h15 hc0 hc1 hc2 hc3 x0 x1 x2 x3 x4 x5 x6
      = voW x0 x1 x5 x6 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 a15 h15 hc0 hc1 hc2 hc3 x0 x1 x2 x3 x4 x5 x6)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread]
  rw [View.canon_unit_zero (S := S384x768) hz2]
  simp only [View.ld_unit_zero (S := S1x16x768) hz3, View.ld_unit_zero (S := S1x2048x768) hz3, View.ld_unit_zero (S := S768x768) hz2, View.ld_unit_zero (S := S768x384) hz2, View.ld_unit_zero (S := S384x768) hz2, View.ld_unit_zero (S := S768x192) hz2, View.ld_unit_zero (S := S192x768) hz2, View.ld_unit_zero (S := S384x384) hz2, View.ld_unit_zero (S := S192x192) hz2]
  rfl

/-- Case A leaves in scratch 2 the first tile's scaled query-key matrix. -/
theorem sout0_A_2_eq (c : Dev nD) (i : grid0.Coords) (a2 : Memref sig .tc .vmem S1x16x768 .f32) (h2 : a2.IsWhole)
    (a3 : Memref sig .tc .vmem S1x16x768 .f32) (h3 : a3.IsWhole)
    (a4 : Memref sig .tc .vmem S1x2048x768 .f32) (h4 : a4.IsWhole)
    (a5 : Memref sig .tc .vmem S768x768 .f32) (h5 : a5.IsWhole)
    (a6 : Memref sig .tc .vmem S768x768 .f32) (h6 : a6.IsWhole)
    (a7 : Memref sig .tc .vmem S768x768 .f32) (h7 : a7.IsWhole)
    (a8 : Memref sig .tc .vmem S768x768 .f32) (h8 : a8.IsWhole)
    (a9 : Memref sig .tc .vmem S1x2048x768 .f32) (h9 : a9.IsWhole)
    (a10 : Memref sig .tc .vmem S768x384 .f32) (h10 : a10.IsWhole)
    (a11 : Memref sig .tc .vmem S384x768 .f32) (h11 : a11.IsWhole)
    (a12 : Memref sig .tc .vmem S768x192 .f32) (h12 : a12.IsWhole)
    (a13 : Memref sig .tc .vmem S192x768 .f32) (h13 : a13.IsWhole)
    (a14 : Memref sig .tc .vmem S384x384 .f32) (h14 : a14.IsWhole)
    (a15 : Memref sig .tc .vmem S192x192 .f32) (h15 : a15.IsWhole)
    (hc0 : cond0_0 i) (hc1 : cond0_1 i) (hc2 : ¬cond0_2 i) (hc3 : ¬cond0_3 i)
    (x0 : Vec F S1x16x768 .f32) (x1 : Vec F S1x16x768 .f32) (x2 : Vec F S1x2048x768 .f32) (x3 : Vec F S768x768 .f32) (x4 : Vec F S768x768 .f32) (x5 : Vec F S768x768 .f32) (x6 : Vec F S768x768 .f32) :
    sout0_A_2 c i a2 h2 a3 h3 a4 h4 a5 h5 a6 h6 a7 h7 a8 h8 a9 h9 a10 h10 a11 h11 a12 h12 a13 h13 a14 h14 a15 h15 hc0 hc1 hc2 hc3 x0 x1 x2 x3 x4 x5 x6
      = qkH x0 x1 x3 x4 := by
  unfold sout0_A_2
  rw [View.read_writes_eq_canon _ _ _ (scover0_A_2 c i a2 h2 a3 h3 a4 h4 a5 h5 a6 h6 a7 h7 a8 h8 a9 h9 a10 h10 a11 h11 a12 h12 a13 h13 a14 h14 a15 h15 hc0 hc1 hc2 hc3 x0 x1 x2 x3 x4 x5 x6)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread]
  rw [View.canon_unit_zero (S := S768x192) hz2]
  simp only [View.ld_unit_zero (S := S1x16x768) hz3, View.ld_unit_zero (S := S1x2048x768) hz3, View.ld_unit_zero (S := S768x768) hz2, View.ld_unit_zero (S := S768x384) hz2, View.ld_unit_zero (S := S384x768) hz2, View.ld_unit_zero (S := S768x192) hz2, View.ld_unit_zero (S := S192x768) hz2, View.ld_unit_zero (S := S384x384) hz2, View.ld_unit_zero (S := S192x192) hz2]
  rfl

/-- Case A leaves in scratch 3 the first tile's values through the output weight. -/
theorem sout0_A_3_eq (c : Dev nD) (i : grid0.Coords) (a2 : Memref sig .tc .vmem S1x16x768 .f32) (h2 : a2.IsWhole)
    (a3 : Memref sig .tc .vmem S1x16x768 .f32) (h3 : a3.IsWhole)
    (a4 : Memref sig .tc .vmem S1x2048x768 .f32) (h4 : a4.IsWhole)
    (a5 : Memref sig .tc .vmem S768x768 .f32) (h5 : a5.IsWhole)
    (a6 : Memref sig .tc .vmem S768x768 .f32) (h6 : a6.IsWhole)
    (a7 : Memref sig .tc .vmem S768x768 .f32) (h7 : a7.IsWhole)
    (a8 : Memref sig .tc .vmem S768x768 .f32) (h8 : a8.IsWhole)
    (a9 : Memref sig .tc .vmem S1x2048x768 .f32) (h9 : a9.IsWhole)
    (a10 : Memref sig .tc .vmem S768x384 .f32) (h10 : a10.IsWhole)
    (a11 : Memref sig .tc .vmem S384x768 .f32) (h11 : a11.IsWhole)
    (a12 : Memref sig .tc .vmem S768x192 .f32) (h12 : a12.IsWhole)
    (a13 : Memref sig .tc .vmem S192x768 .f32) (h13 : a13.IsWhole)
    (a14 : Memref sig .tc .vmem S384x384 .f32) (h14 : a14.IsWhole)
    (a15 : Memref sig .tc .vmem S192x192 .f32) (h15 : a15.IsWhole)
    (hc0 : cond0_0 i) (hc1 : cond0_1 i) (hc2 : ¬cond0_2 i) (hc3 : ¬cond0_3 i)
    (x0 : Vec F S1x16x768 .f32) (x1 : Vec F S1x16x768 .f32) (x2 : Vec F S1x2048x768 .f32) (x3 : Vec F S768x768 .f32) (x4 : Vec F S768x768 .f32) (x5 : Vec F S768x768 .f32) (x6 : Vec F S768x768 .f32) :
    sout0_A_3 c i a2 h2 a3 h3 a4 h4 a5 h5 a6 h6 a7 h7 a8 h8 a9 h9 a10 h10 a11 h11 a12 h12 a13 h13 a14 h14 a15 h15 hc0 hc1 hc2 hc3 x0 x1 x2 x3 x4 x5 x6
      = voH x0 x1 x5 x6 := by
  unfold sout0_A_3
  rw [View.read_writes_eq_canon _ _ _ (scover0_A_3 c i a2 h2 a3 h3 a4 h4 a5 h5 a6 h6 a7 h7 a8 h8 a9 h9 a10 h10 a11 h11 a12 h12 a13 h13 a14 h14 a15 h15 hc0 hc1 hc2 hc3 x0 x1 x2 x3 x4 x5 x6)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread]
  rw [View.canon_unit_zero (S := S192x768) hz2]
  simp only [View.ld_unit_zero (S := S1x16x768) hz3, View.ld_unit_zero (S := S1x2048x768) hz3, View.ld_unit_zero (S := S768x768) hz2, View.ld_unit_zero (S := S768x384) hz2, View.ld_unit_zero (S := S384x768) hz2, View.ld_unit_zero (S := S768x192) hz2, View.ld_unit_zero (S := S192x768) hz2, View.ld_unit_zero (S := S384x384) hz2, View.ld_unit_zero (S := S192x192) hz2]
  rfl

/-- Case A leaves in scratch 4 the head-sum matrix of both tiles. -/
theorem sout0_A_4_eq (c : Dev nD) (i : grid0.Coords) (a2 : Memref sig .tc .vmem S1x16x768 .f32) (h2 : a2.IsWhole)
    (a3 : Memref sig .tc .vmem S1x16x768 .f32) (h3 : a3.IsWhole)
    (a4 : Memref sig .tc .vmem S1x2048x768 .f32) (h4 : a4.IsWhole)
    (a5 : Memref sig .tc .vmem S768x768 .f32) (h5 : a5.IsWhole)
    (a6 : Memref sig .tc .vmem S768x768 .f32) (h6 : a6.IsWhole)
    (a7 : Memref sig .tc .vmem S768x768 .f32) (h7 : a7.IsWhole)
    (a8 : Memref sig .tc .vmem S768x768 .f32) (h8 : a8.IsWhole)
    (a9 : Memref sig .tc .vmem S1x2048x768 .f32) (h9 : a9.IsWhole)
    (a10 : Memref sig .tc .vmem S768x384 .f32) (h10 : a10.IsWhole)
    (a11 : Memref sig .tc .vmem S384x768 .f32) (h11 : a11.IsWhole)
    (a12 : Memref sig .tc .vmem S768x192 .f32) (h12 : a12.IsWhole)
    (a13 : Memref sig .tc .vmem S192x768 .f32) (h13 : a13.IsWhole)
    (a14 : Memref sig .tc .vmem S384x384 .f32) (h14 : a14.IsWhole)
    (a15 : Memref sig .tc .vmem S192x192 .f32) (h15 : a15.IsWhole)
    (hc0 : cond0_0 i) (hc1 : cond0_1 i) (hc2 : ¬cond0_2 i) (hc3 : ¬cond0_3 i)
    (x0 : Vec F S1x16x768 .f32) (x1 : Vec F S1x16x768 .f32) (x2 : Vec F S1x2048x768 .f32) (x3 : Vec F S768x768 .f32) (x4 : Vec F S768x768 .f32) (x5 : Vec F S768x768 .f32) (x6 : Vec F S768x768 .f32) :
    sout0_A_4 c i a2 h2 a3 h3 a4 h4 a5 h5 a6 h6 a7 h7 a8 h8 a9 h9 a10 h10 a11 h11 a12 h12 a13 h13 a14 h14 a15 h15 hc0 hc1 hc2 hc3 x0 x1 x2 x3 x4 x5 x6
      = ggW := by
  unfold sout0_A_4
  rw [View.read_writes_eq_canon _ _ _ (scover0_A_4 c i a2 h2 a3 h3 a4 h4 a5 h5 a6 h6 a7 h7 a8 h8 a9 h9 a10 h10 a11 h11 a12 h12 a13 h13 a14 h14 a15 h15 hc0 hc1 hc2 hc3 x0 x1 x2 x3 x4 x5 x6)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread]
  rw [View.canon_unit_zero (S := S384x384) hz2]
  rfl

/-- Case A leaves in scratch 5 the head-sum matrix of the first tile. -/
theorem sout0_A_5_eq (c : Dev nD) (i : grid0.Coords) (a2 : Memref sig .tc .vmem S1x16x768 .f32) (h2 : a2.IsWhole)
    (a3 : Memref sig .tc .vmem S1x16x768 .f32) (h3 : a3.IsWhole)
    (a4 : Memref sig .tc .vmem S1x2048x768 .f32) (h4 : a4.IsWhole)
    (a5 : Memref sig .tc .vmem S768x768 .f32) (h5 : a5.IsWhole)
    (a6 : Memref sig .tc .vmem S768x768 .f32) (h6 : a6.IsWhole)
    (a7 : Memref sig .tc .vmem S768x768 .f32) (h7 : a7.IsWhole)
    (a8 : Memref sig .tc .vmem S768x768 .f32) (h8 : a8.IsWhole)
    (a9 : Memref sig .tc .vmem S1x2048x768 .f32) (h9 : a9.IsWhole)
    (a10 : Memref sig .tc .vmem S768x384 .f32) (h10 : a10.IsWhole)
    (a11 : Memref sig .tc .vmem S384x768 .f32) (h11 : a11.IsWhole)
    (a12 : Memref sig .tc .vmem S768x192 .f32) (h12 : a12.IsWhole)
    (a13 : Memref sig .tc .vmem S192x768 .f32) (h13 : a13.IsWhole)
    (a14 : Memref sig .tc .vmem S384x384 .f32) (h14 : a14.IsWhole)
    (a15 : Memref sig .tc .vmem S192x192 .f32) (h15 : a15.IsWhole)
    (hc0 : cond0_0 i) (hc1 : cond0_1 i) (hc2 : ¬cond0_2 i) (hc3 : ¬cond0_3 i)
    (x0 : Vec F S1x16x768 .f32) (x1 : Vec F S1x16x768 .f32) (x2 : Vec F S1x2048x768 .f32) (x3 : Vec F S768x768 .f32) (x4 : Vec F S768x768 .f32) (x5 : Vec F S768x768 .f32) (x6 : Vec F S768x768 .f32) :
    sout0_A_5 c i a2 h2 a3 h3 a4 h4 a5 h5 a6 h6 a7 h7 a8 h8 a9 h9 a10 h10 a11 h11 a12 h12 a13 h13 a14 h14 a15 h15 hc0 hc1 hc2 hc3 x0 x1 x2 x3 x4 x5 x6
      = ggH := by
  unfold sout0_A_5
  rw [View.read_writes_eq_canon _ _ _ (scover0_A_5 c i a2 h2 a3 h3 a4 h4 a5 h5 a6 h6 a7 h7 a8 h8 a9 h9 a10 h10 a11 h11 a12 h12 a13 h13 a14 h14 a15 h15 hc0 hc1 hc2 hc3 x0 x1 x2 x3 x4 x5 x6)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread]
  rw [View.canon_unit_zero (S := S192x192) hz2]
  rfl

/-- Case A's output block: the causal stream over the first tile, from the arrays it has just prepared. -/
theorem out0_A_7_eq (c : Dev nD) (i : grid0.Coords) (a2 : Memref sig .tc .vmem S1x16x768 .f32) (h2 : a2.IsWhole)
    (a3 : Memref sig .tc .vmem S1x16x768 .f32) (h3 : a3.IsWhole)
    (a4 : Memref sig .tc .vmem S1x2048x768 .f32) (h4 : a4.IsWhole)
    (a5 : Memref sig .tc .vmem S768x768 .f32) (h5 : a5.IsWhole)
    (a6 : Memref sig .tc .vmem S768x768 .f32) (h6 : a6.IsWhole)
    (a7 : Memref sig .tc .vmem S768x768 .f32) (h7 : a7.IsWhole)
    (a8 : Memref sig .tc .vmem S768x768 .f32) (h8 : a8.IsWhole)
    (a9 : Memref sig .tc .vmem S1x2048x768 .f32) (h9 : a9.IsWhole)
    (a10 : Memref sig .tc .vmem S768x384 .f32) (h10 : a10.IsWhole)
    (a11 : Memref sig .tc .vmem S384x768 .f32) (h11 : a11.IsWhole)
    (a12 : Memref sig .tc .vmem S768x192 .f32) (h12 : a12.IsWhole)
    (a13 : Memref sig .tc .vmem S192x768 .f32) (h13 : a13.IsWhole)
    (a14 : Memref sig .tc .vmem S384x384 .f32) (h14 : a14.IsWhole)
    (a15 : Memref sig .tc .vmem S192x192 .f32) (h15 : a15.IsWhole)
    (hc0 : cond0_0 i) (hc1 : cond0_1 i) (hc2 : ¬cond0_2 i) (hc3 : ¬cond0_3 i)
    (x0 : Vec F S1x16x768 .f32) (x1 : Vec F S1x16x768 .f32) (x2 : Vec F S1x2048x768 .f32) (x3 : Vec F S768x768 .f32) (x4 : Vec F S768x768 .f32) (x5 : Vec F S768x768 .f32) (x6 : Vec F S768x768 .f32) :
    out0_A_7 c i a2 h2 a3 h3 a4 h4 a5 h5 a6 h6 a7 h7 a8 h8 a9 h9 a10 h10 a11 h11 a12 h12 a13 h13 a14 h14 a15 h15 hc0 hc1 hc2 hc3 x0 x1 x2 x3 x4 x5 x6
      = k0_pay2 (k0_pay39 x2 (qkH x0 x1 x3 x4) ggH (voH x0 x1 x5 x6)) := by
  unfold out0_A_7
  rw [View.read_writes_eq_canon _ _ _ (cover0_A_7 c i a2 h2 a3 h3 a4 h4 a5 h5 a6 h6 a7 h7 a8 h8 a9 h9 a10 h10 a11 h11 a12 h12 a13 h13 a14 h14 a15 h15 hc0 hc1 hc2 hc3 x0 x1 x2 x3 x4 x5 x6)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread]
  rw [View.canon_unit_zero (S := S1x2048x768) hz3, View.readCov_unit_zero (S := S768x192) _ hz2, View.readCov_unit_zero (S := S192x192) _ hz2,
    View.readCov_unit_zero (S := S192x768) _ hz2]
  simp only [View.ld_unit_zero (S := S1x16x768) hz3, View.ld_unit_zero (S := S1x2048x768) hz3, View.ld_unit_zero (S := S768x768) hz2, View.ld_unit_zero (S := S768x384) hz2, View.ld_unit_zero (S := S384x768) hz2, View.ld_unit_zero (S := S768x192) hz2, View.ld_unit_zero (S := S192x768) hz2, View.ld_unit_zero (S := S384x384) hz2, View.ld_unit_zero (S := S192x192) hz2]
  rfl

/-- Case B's output block: the unmasked stream over the first tile. -/
theorem out0_B_7_eq (c : Dev nD) (i : grid0.Coords) (a2 : Memref sig .tc .vmem S1x16x768 .f32) (h2 : a2.IsWhole)
    (a3 : Memref sig .tc .vmem S1x16x768 .f32) (h3 : a3.IsWhole)
    (a4 : Memref sig .tc .vmem S1x2048x768 .f32) (h4 : a4.IsWhole)
    (a5 : Memref sig .tc .vmem S768x768 .f32) (h5 : a5.IsWhole)
    (a6 : Memref sig .tc .vmem S768x768 .f32) (h6 : a6.IsWhole)
    (a7 : Memref sig .tc .vmem S768x768 .f32) (h7 : a7.IsWhole)
    (a8 : Memref sig .tc .vmem S768x768 .f32) (h8 : a8.IsWhole)
    (a9 : Memref sig .tc .vmem S1x2048x768 .f32) (h9 : a9.IsWhole)
    (a10 : Memref sig .tc .vmem S768x384 .f32) (h10 : a10.IsWhole)
    (a11 : Memref sig .tc .vmem S384x768 .f32) (h11 : a11.IsWhole)
    (a12 : Memref sig .tc .vmem S768x192 .f32) (h12 : a12.IsWhole)
    (a13 : Memref sig .tc .vmem S192x768 .f32) (h13 : a13.IsWhole)
    (a14 : Memref sig .tc .vmem S384x384 .f32) (h14 : a14.IsWhole)
    (a15 : Memref sig .tc .vmem S192x192 .f32) (h15 : a15.IsWhole)
    (hc0 : ¬cond0_0 i) (hc1 : ¬cond0_1 i) (hc2 : cond0_2 i) (hc3 : ¬cond0_3 i)
    (x0 : Vec F S1x16x768 .f32) (x1 : Vec F S1x16x768 .f32) (x2 : Vec F S1x2048x768 .f32) (x3 : Vec F S768x768 .f32) (x4 : Vec F S768x768 .f32) (x5 : Vec F S768x768 .f32) (x6 : Vec F S768x768 .f32) (xs0 : Vec F S768x384 .f32) (xs1 : Vec F S384x768 .f32) (xs2 : Vec F S768x192 .f32) (xs3 : Vec F S192x768 .f32) (xs4 : Vec F S384x384 .f32) (xs5 : Vec F S192x192 .f32) :
    out0_B_7 c i a2 h2 a3 h3 a4 h4 a5 h5 a6 h6 a7 h7 a8 h8 a9 h9 a10 h10 a11 h11 a12 h12 a13 h13 a14 h14 a15 h15 hc0 hc1 hc2 hc3 x0 x1 x2 x3 x4 x5 x6 xs0 xs1 xs2 xs3 xs4 xs5
      = k0_pay3 x2 xs2 xs5 xs3 := by
  unfold out0_B_7
  rw [View.read_writes_eq_canon _ _ _ (cover0_B_7 c i a2 h2 a3 h3 a4 h4 a5 h5 a6 h6 a7 h7 a8 h8 a9 h9 a10 h10 a11 h11 a12 h12 a13 h13 a14 h14 a15 h15 hc0 hc1 hc2 hc3 x0 x1 x2 x3 x4 x5 x6 xs0 xs1 xs2 xs3 xs4 xs5)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread]
  rw [View.canon_unit_zero (S := S1x2048x768) hz3]
  simp only [View.ld_unit_zero (S := S1x16x768) hz3, View.ld_unit_zero (S := S1x2048x768) hz3, View.ld_unit_zero (S := S768x768) hz2, View.ld_unit_zero (S := S768x384) hz2, View.ld_unit_zero (S := S384x768) hz2, View.ld_unit_zero (S := S768x192) hz2, View.ld_unit_zero (S := S192x768) hz2, View.ld_unit_zero (S := S384x384) hz2, View.ld_unit_zero (S := S192x192) hz2]

/-- Case C's output block: the unmasked stream, its last sixteen rows overwritten by the recomputed ones. -/
theorem out0_C_7_eq (c : Dev nD) (i : grid0.Coords) (a2 : Memref sig .tc .vmem S1x16x768 .f32) (h2 : a2.IsWhole)
    (a3 : Memref sig .tc .vmem S1x16x768 .f32) (h3 : a3.IsWhole)
    (a4 : Memref sig .tc .vmem S1x2048x768 .f32) (h4 : a4.IsWhole)
    (a5 : Memref sig .tc .vmem S768x768 .f32) (h5 : a5.IsWhole)
    (a6 : Memref sig .tc .vmem S768x768 .f32) (h6 : a6.IsWhole)
    (a7 : Memref sig .tc .vmem S768x768 .f32) (h7 : a7.IsWhole)
    (a8 : Memref sig .tc .vmem S768x768 .f32) (h8 : a8.IsWhole)
    (a9 : Memref sig .tc .vmem S1x2048x768 .f32) (h9 : a9.IsWhole)
    (a10 : Memref sig .tc .vmem S768x384 .f32) (h10 : a10.IsWhole)
    (a11 : Memref sig .tc .vmem S384x768 .f32) (h11 : a11.IsWhole)
    (a12 : Memref sig .tc .vmem S768x192 .f32) (h12 : a12.IsWhole)
    (a13 : Memref sig .tc .vmem S192x768 .f32) (h13 : a13.IsWhole)
    (a14 : Memref sig .tc .vmem S384x384 .f32) (h14 : a14.IsWhole)
    (a15 : Memref sig .tc .vmem S192x192 .f32) (h15 : a15.IsWhole)
    (hc0 : ¬cond0_0 i) (hc1 : ¬cond0_1 i) (hc2 : cond0_2 i) (hc3 : cond0_3 i)
    (x0 : Vec F S1x16x768 .f32) (x1 : Vec F S1x16x768 .f32) (x2 : Vec F S1x2048x768 .f32) (x3 : Vec F S768x768 .f32) (x4 : Vec F S768x768 .f32) (x5 : Vec F S768x768 .f32) (x6 : Vec F S768x768 .f32) (xs0 : Vec F S768x384 .f32) (xs1 : Vec F S384x768 .f32) (xs2 : Vec F S768x192 .f32) (xs3 : Vec F S192x768 .f32) (xs4 : Vec F S384x384 .f32) (xs5 : Vec F S192x192 .f32) :
    out0_C_7 c i a2 h2 a3 h3 a4 h4 a5 h5 a6 h6 a7 h7 a8 h8 a9 h9 a10 h10 a11 h11 a12 h12 a13 h13 a14 h14 a15 h15 hc0 hc1 hc2 hc3 x0 x1 x2 x3 x4 x5 x6 xs0 xs1 xs2 xs3 xs4 xs5
      = outLast x2 xs0 xs1 xs2 xs3 xs4 xs5 := by
  unfold out0_C_7
  rw [View.read_writes_eq_canon _ _ _ (cover0_C_7 c i a2 h2 a3 h3 a4 h4 a5 h5 a6 h6 a7 h7 a8 h8 a9 h9 a10 h10 a11 h11 a12 h12 a13 h13 a14 h14 a15 h15 hc0 hc1 hc2 hc3 x0 x1 x2 x3 x4 x5 x6 xs0 xs1 xs2 xs3 xs4 xs5)]
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread]
  funext y
  have hld : View.ld x2 (Rect.unit ![0, 2032, 0] ![1, 16, 768] inb_S1x2048x768_S1x16x768_0_2032_0) = tail16 x2 := by
    funext j
    unfold tail16
    show x2 _ = x2 _
    congr 1
    funext a
    apply Fin.ext
    match a with
    | ⟨0, _⟩ => show 0 + 1 * (j 0).val = 0; have : (j 0).val < 1 := (j 0).isLt; omega
    | ⟨1, _⟩ => show 2032 + 1 * (j 1).val = 2032 + (j 1).val; omega
    | ⟨2, _⟩ => show 0 + 1 * (j 2).val = (j 2).val; omega
  have hy0 : (y 0).val < 1 := (y 0).isLt
  have hy1 : (y 1).val < 2048 := (y 1).isLt
  have hy2 : (y 2).val < 768 := (y 2).isLt
  unfold outLast
  by_cases h : 2032 ≤ (y 1).val
  · rw [dif_pos h]
    have hy : y = (Rect.unit (s := S1x2048x768) ![0, 2032, 0] ![1, 16, 768] inb_S1x2048x768_S1x16x768_0_2032_0).emb
        (ix3 (0 : Fin 1) (⟨(y 1).val - 2032, by omega⟩ : Fin 16) (y 2)) := by
      funext a
      apply Fin.ext
      match a with
      | ⟨0, _⟩ => show (y 0).val = 0 + 1 * 0; omega
      | ⟨1, _⟩ => show (y 1).val = 2032 + 1 * ((y 1).val - 2032); omega
      | ⟨2, _⟩ => show (y 2).val = 0 + 1 * (y 2).val; omega
    conv_lhs => rw [hy]
    rw [View.canon_cons_emb, hld]
    simp only [View.ld_unit_zero (S := S1x16x768) hz3, View.ld_unit_zero (S := S1x2048x768) hz3, View.ld_unit_zero (S := S768x768) hz2, View.ld_unit_zero (S := S768x384) hz2, View.ld_unit_zero (S := S384x768) hz2, View.ld_unit_zero (S := S768x192) hz2, View.ld_unit_zero (S := S192x768) hz2, View.ld_unit_zero (S := S384x384) hz2, View.ld_unit_zero (S := S192x192) hz2]
    rfl
  · rw [dif_neg h, View.canon_cons_of_not_mem, View.canon_unit_zero (S := S1x2048x768) hz3]
    · simp only [View.ld_unit_zero (S := S1x16x768) hz3, View.ld_unit_zero (S := S1x2048x768) hz3, View.ld_unit_zero (S := S768x768) hz2, View.ld_unit_zero (S := S768x384) hz2, View.ld_unit_zero (S := S384x768) hz2, View.ld_unit_zero (S := S768x192) hz2, View.ld_unit_zero (S := S192x768) hz2, View.ld_unit_zero (S := S384x384) hz2, View.ld_unit_zero (S := S192x192) hz2]
    · rw [Rect.mem_set_unit]
      intro hm
      exact h (hm 1).1

end Cert.KernelIdeal.Attn
-- ==== Proof.State.lean ====
module

public import proofs.«01_k».proof.Proof.Blocks

@[expose] public section

/-! The windows' blocks as parts of the argument arrays, the carried scratch at every grid point, and what the result
    array holds in the end. -/

set_option maxRecDepth 16384

noncomputable section

namespace Cert.KernelIdeal.Attn

open Idealize.ShloMosaic.ValueIdx Cert.KernelIdeal Cert.KernelIdeal.Gen Idealize.ShloMosaic Idealize.ShloMosaic.TcCoe Idealize.SL.Sem

variable {F : FTy → Type} [FloatOps F] [Named F]

/-! ## The parts of the input one batch reads -/

/-- Tokens 0 … 15 of batch `b`. -/
def keysF (x : Vec F S2x8192x768 .f32) (b : Fin 2) : Vec F S1x16x768 .f32 :=
  fun j => x (ix3 b (⟨(j 1).val, by have : (j 1).val < 16 := (j 1).isLt; omega⟩ : Fin 8192) (j 2))

/-- Tokens 8176 … 8191 of batch `b`. -/
def keysL (x : Vec F S2x8192x768 .f32) (b : Fin 2) : Vec F S1x16x768 .f32 :=
  fun j => x (ix3 b (⟨8176 + (j 1).val, by have : (j 1).val < 16 := (j 1).isLt; omega⟩ : Fin 8192) (j 2))

/-- The query rows of tile `q` of batch `b`. -/
def rowsT (x : Vec F S2x8192x768 .f32) (b : Fin 2) (q : Fin 4) : Vec F S1x2048x768 .f32 :=
  fun j => x (ix3 b (⟨2048 * q.val + (j 1).val, by have : (j 1).val < 2048 := (j 1).isLt; omega⟩ : Fin 8192) (j 2))

/-- The batch of a grid point. -/
def bat (n : ℕ) (h : n < cfg0.N) : Fin 2 := ⟨n / 4, by have := lt_of_lt_of_eq h (show cfg0.N = 8 from N_0); omega⟩
/-- The query tile of a grid point. -/
def til (n : ℕ) (h : n < cfg0.N) : Fin 4 := ⟨n % 4, by omega⟩

variable (m : (ℓ : Loc nD τ sig) → Buf (Elt F) ℓ)

/-- The printed index maps, decided over the grid. -/
theorem idxmaps : ∀ t : Fin cfg0.N,
    win0_0.index t = ![t.val / 4, 0, 0] ∧ win0_1.index t = ![t.val / 4, 511, 0] ∧ win0_2.index t = ![t.val / 4, t.val % 4, 0]
    ∧ win0_3.index t = ![0, 0] ∧ win0_4.index t = ![0, 0] ∧ win0_5.index t = ![0, 0] ∧ win0_6.index t = ![0, 0] :=
  (by decide +kernel : ∀ t : Fin grid0.N, _)

/-- Window 0's block is the first sixteen tokens of the point's batch. -/
theorem iblk_0 (c : Dev nD) (t : Fin cfg0.N) :
    (iblk m c 0 t : Vec F S1x16x768 .f32) = keysF (m ((c : Thread nD τ).loc main_arg0)) (bat t.val t.isLt) := by
  have e := (idxmaps t).1
  funext j
  unfold iblk keysF
  rw [View.read_apply]
  show V m c main_arg0 _ = m (c.tc.loc main_arg0) _
  unfold V
  congr 1
  funext a
  apply Fin.ext
  have hj : (j 0).val < 1 := (j 0).isLt
  match a with
  | ⟨0, _⟩ => show win0_0.index t 0 * 1 + 1 * (j 0).val = t.val / 4; rw [e]; show t.val / 4 * 1 + 1 * (j 0).val = t.val / 4; omega
  | ⟨1, _⟩ => show win0_0.index t 1 * 16 + 1 * (j 1).val = (j 1).val; rw [e]; show 0 * 16 + 1 * (j 1).val = (j 1).val; omega
  | ⟨2, _⟩ => show win0_0.index t 2 * 768 + 1 * (j 2).val = (j 2).val; rw [e]; show 0 * 768 + 1 * (j 2).val = (j 2).val; omega

/-- Window 1's block is the last sixteen tokens of the point's batch. -/
theorem iblk_1 (c : Dev nD) (t : Fin cfg0.N) :
    (iblk m c 1 t : Vec F S1x16x768 .f32) = keysL (m ((c : Thread nD τ).loc main_arg0)) (bat t.val t.isLt) := by
  have e := (idxmaps t).2.1
  funext j
  unfold iblk keysL
  rw [View.read_apply]
  show V m c main_arg0 _ = m (c.tc.loc main_arg0) _
  unfold V
  congr 1
  funext a
  apply Fin.ext
  have hj : (j 0).val < 1 := (j 0).isLt
  match a with
  | ⟨0, _⟩ => show win0_1.index t 0 * 1 + 1 * (j 0).val = t.val / 4; rw [e]; show t.val / 4 * 1 + 1 * (j 0).val = t.val / 4; omega
  | ⟨1, _⟩ => show win0_1.index t 1 * 16 + 1 * (j 1).val = 8176 + (j 1).val; rw [e]; show 511 * 16 + 1 * (j 1).val = 8176 + (j 1).val; omega
  | ⟨2, _⟩ => show win0_1.index t 2 * 768 + 1 * (j 2).val = (j 2).val; rw [e]; show 0 * 768 + 1 * (j 2).val = (j 2).val; omega

/-- Window 2's block is the query rows of the point's tile. -/
theorem iblk_2 (c : Dev nD) (t : Fin cfg0.N) :
    (iblk m c 2 t : Vec F S1x2048x768 .f32)
      = rowsT (m ((c : Thread nD τ).loc main_arg0)) (bat t.val t.isLt) (til t.val t.isLt) := by
  have e := (idxmaps t).2.2.1
  funext j
  unfold iblk rowsT
  rw [View.read_apply]
  show V m c main_arg0 _ = m (c.tc.loc main_arg0) _
  unfold V
  congr 1
  funext a
  apply Fin.ext
  have hj : (j 0).val < 1 := (j 0).isLt
  match a with
  | ⟨0, _⟩ => show win0_2.index t 0 * 1 + 1 * (j 0).val = t.val / 4; rw [e]; show t.val / 4 * 1 + 1 * (j 0).val = t.val / 4; omega
  | ⟨1, _⟩ => show win0_2.index t 1 * 2048 + 1 * (j 1).val = 2048 * (t.val % 4) + (j 1).val; rw [e]; show t.val % 4 * 2048 + 1 * (j 1).val = 2048 * (t.val % 4) + (j 1).val; omega
  | ⟨2, _⟩ => show win0_2.index t 2 * 768 + 1 * (j 2).val = (j 2).val; rw [e]; show 0 * 768 + 1 * (j 2).val = (j 2).val; omega

/-- Window 3's block is the whole of the query weight. -/
theorem iblk_3 (c : Dev nD) (t : Fin cfg0.N) :
    (iblk m c 3 t : Vec F S768x768 .f32) = m ((c : Thread nD τ).loc main_arg1) := by
  have e := (idxmaps t).2.2.2.1
  funext j
  unfold iblk
  rw [View.read_apply]
  show V m c main_arg1 _ = m (c.tc.loc main_arg1) j
  unfold V
  congr 1
  funext a
  apply Fin.ext
  match a with
  | ⟨0, _⟩ => show win0_3.index t 0 * 768 + 1 * (j 0).val = (j 0).val; rw [e]; show 0 * 768 + 1 * (j 0).val = (j 0).val; omega
  | ⟨1, _⟩ => show win0_3.index t 1 * 768 + 1 * (j 1).val = (j 1).val; rw [e]; show 0 * 768 + 1 * (j 1).val = (j 1).val; omega

/-- Window 4's block is the whole of the key weight. -/
theorem iblk_4 (c : Dev nD) (t : Fin cfg0.N) :
    (iblk m c 4 t : Vec F S768x768 .f32) = m ((c : Thread nD τ).loc main_arg2) := by
  have e := (idxmaps t).2.2.2.2.1
  funext j
  unfold iblk
  rw [View.read_apply]
  show V m c main_arg2 _ = m (c.tc.loc main_arg2) j
  unfold V
  congr 1
  funext a
  apply Fin.ext
  match a with
  | ⟨0, _⟩ => show win0_4.index t 0 * 768 + 1 * (j 0).val = (j 0).val; rw [e]; show 0 * 768 + 1 * (j 0).val = (j 0).val; omega
  | ⟨1, _⟩ => show win0_4.index t 1 * 768 + 1 * (j 1).val = (j 1).val; rw [e]; show 0 * 768 + 1 * (j 1).val = (j 1).val; omega

/-- Window 5's block is the whole of the value weight. -/
theorem iblk_5 (c : Dev nD) (t : Fin cfg0.N) :
    (iblk m c 5 t : Vec F S768x768 .f32) = m ((c : Thread nD τ).loc main_arg3) := by
  have e := (idxmaps t).2.2.2.2.2.1
  funext j
  unfold iblk
  rw [View.read_apply]
  show V m c main_arg3 _ = m (c.tc.loc main_arg3) j
  unfold V
  congr 1
  funext a
  apply Fin.ext
  match a with
  | ⟨0, _⟩ => show win0_5.index t 0 * 768 + 1 * (j 0).val = (j 0).val; rw [e]; show 0 * 768 + 1 * (j 0).val = (j 0).val; omega
  | ⟨1, _⟩ => show win0_5.index t 1 * 768 + 1 * (j 1).val = (j 1).val; rw [e]; show 0 * 768 + 1 * (j 1).val = (j 1).val; omega

/-- Window 6's block is the whole of the output weight. -/
theorem iblk_6 (c : Dev nD) (t : Fin cfg0.N) :
    (iblk m c 6 t : Vec F S768x768 .f32) = m ((c : Thread nD τ).loc main_arg4) := by
  have e := (idxmaps t).2.2.2.2.2.2
  funext j
  unfold iblk
  rw [View.read_apply]
  show V m c main_arg4 _ = m (c.tc.loc main_arg4) j
  unfold V
  congr 1
  funext a
  apply Fin.ext
  match a with
  | ⟨0, _⟩ => show win0_6.index t 0 * 768 + 1 * (j 0).val = (j 0).val; rw [e]; show 0 * 768 + 1 * (j 0).val = (j 0).val; omega
  | ⟨1, _⟩ => show win0_6.index t 1 * 768 + 1 * (j 1).val = (j 1).val; rw [e]; show 0 * 768 + 1 * (j 1).val = (j 1).val; omega

/-! ## The carried scratch -/

/-- What the six scratch arrays hold throughout batch `b`. -/
def scr (x : Vec F S2x8192x768 .f32) (wq wk wv wo : Vec F S768x768 .f32) (b : Fin 2) :
    Vec F S768x384 .f32 × Vec F S384x768 .f32 × Vec F S768x192 .f32 × Vec F S192x768 .f32 × Vec F S384x384 .f32 × Vec F S192x192 .f32 :=
  (qkW (keysF x b) (keysL x b) wq wk, voW (keysF x b) (keysL x b) wv wo, qkH (keysF x b) (keysL x b) wq wk,
    voH (keysF x b) (keysL x b) wv wo, ggW, ggH)

/-- The output block of grid point (`b`, `q`). -/
def blk (x : Vec F S2x8192x768 .f32) (wq wk wv wo : Vec F S768x768 .f32) (b : Fin 2) (q : Fin 4) : Vec F S1x2048x768 .f32 :=
  if q.val = 0 then
    k0_pay2 (k0_pay39 (rowsT x b q) (qkH (keysF x b) (keysL x b) wq wk) ggH (voH (keysF x b) (keysL x b) wv wo))
  else if q.val = 3 then
    outLast (rowsT x b q) (qkW (keysF x b) (keysL x b) wq wk) (voW (keysF x b) (keysL x b) wv wo)
      (qkH (keysF x b) (keysL x b) wq wk) (voH (keysF x b) (keysL x b) wv wo) ggW ggH
  else k0_pay3 (rowsT x b q) (qkH (keysF x b) (keysL x b) wq wk) ggH (voH (keysF x b) (keysL x b) wv wo)

/-- After every grid point the staged output and the scratch are its batch's and tile's. -/
theorem outsAt_eq (c : Dev nD) : ∀ (n : ℕ) (h : n < cfg0.N), outsAt0 m c n h =
    (blk (m ((c : Thread nD τ).loc main_arg0)) (m ((c : Thread nD τ).loc main_arg1)) (m ((c : Thread nD τ).loc main_arg2))
        (m ((c : Thread nD τ).loc main_arg3)) (m ((c : Thread nD τ).loc main_arg4)) (bat n h) (til n h),
      scr (m ((c : Thread nD τ).loc main_arg0)) (m ((c : Thread nD τ).loc main_arg1)) (m ((c : Thread nD τ).loc main_arg2))
        (m ((c : Thread nD τ).loc main_arg3)) (m ((c : Thread nD τ).loc main_arg4)) (bat n h))
  | n, h => by
    have hN : n < 8 := lt_of_lt_of_eq h (show cfg0.N = 8 from N_0)
    by_cases h0 : n % 4 = 0
    · rw [outsAt0_A m c ⟨n, h⟩ h0 h0 (by dsimp only; omega) (by dsimp only; omega)]
      rw [out0_A_7_eq, sout0_A_0_eq, sout0_A_1_eq, sout0_A_2_eq, sout0_A_3_eq, sout0_A_4_eq, sout0_A_5_eq]
      rw [iblk_0, iblk_1, iblk_2, iblk_3, iblk_4, iblk_5, iblk_6]
      unfold scr blk
      rw [if_pos (show (til n h).val = 0 from h0)]
    · match n, h, hN, h0 with
      | 0, _, _, h0 => exact absurd rfl h0
      | n + 1, h, hN, h0 =>
        have ih := outsAt_eq c n (Nat.lt_of_succ_lt h)
        have hb : bat n (Nat.lt_of_succ_lt h) = bat (n + 1) h := Fin.ext (show n / 4 = (n + 1) / 4 by omega)
        rw [hb] at ih
        rw [Value.outsAt0_succ, ih]
        by_cases h3 : (n + 1) % 4 = 3
        · rw [Value.stAt0_C m c ⟨n + 1, h⟩ _ h0 h0 (by dsimp only; omega) h3]
          rw [out0_C_7_eq, iblk_2]
          unfold blk
          rw [if_neg (show ¬(til (n + 1) h).val = 0 from h0), if_pos (show (til (n + 1) h).val = 3 from h3)]
          rfl
        · rw [Value.stAt0_B m c ⟨n + 1, h⟩ _ h0 h0 (by dsimp only; omega) h3]
          rw [out0_B_7_eq, iblk_2]
          unfold blk
          rw [if_neg (show ¬(til (n + 1) h).val = 0 from h0), if_neg (show ¬(til (n + 1) h).val = 3 from h3)]
          rfl

/-- The result array: every element is its grid point's block at its place in the block. -/
def res (x : Vec F S2x8192x768 .f32) (wq wk wv wo : Vec F S768x768 .f32) : Vec F S2x8192x768 .f32 :=
  fun i => blk x wq wk wv wo (i 0) ⟨(i 1).val / 2048, by have : (i 1).val < 8192 := (i 1).isLt; omega⟩
    (ix3 (0 : Fin 1) (⟨(i 1).val % 2048, by omega⟩ : Fin 2048) (i 2))

/-- What the run leaves in the result array. -/
theorem G7_eq (c : Dev nD) : Value.G7 m c =
    res (m ((c : Thread nD τ).loc main_arg0)) (m ((c : Thread nD τ).loc main_arg1)) (m ((c : Thread nD τ).loc main_arg2))
      (m ((c : Thread nD τ).loc main_arg3)) (m ((c : Thread nD τ).loc main_arg4)) := by
  funext i
  have hi0 : (i 0).val < 2 := (i 0).isLt
  have hi1 : (i 1).val < 8192 := (i 1).isLt
  have hi2 : (i 2).val < 768 := (i 2).isLt
  have hp : Value.pt7Of i = 4 * (i 0).val + (i 1).val / 2048 := by
    show 4 * ((i 0).val / 1 - 0) + 1 * ((i 1).val / 2048 - 0) + 1 * ((i 2).val / 768 - 0) = _
    omega
  have hlt : Value.pt7Of i < cfg0.N := by rw [hp, show cfg0.N = 8 from N_0]; omega
  have hl : Value.loc7Of i = ix3 (0 : Fin 1) (⟨(i 1).val % 2048, by omega⟩ : Fin 2048) (i 2) := by
    funext a
    apply Fin.ext
    match a with
    | ⟨0, _⟩ => show (i 0).val % 1 = 0; omega
    | ⟨1, _⟩ => rfl
    | ⟨2, _⟩ => show (i 2).val % 768 = (i 2).val; omega
  unfold Value.G7 res
  rw [dif_pos hlt, hl]
  have hs := Value.outsAt0_sweep m c (Value.pt7Of i) hlt
  rw [outsAt_eq] at hs
  rw [← hs]
  have hb : bat (Value.pt7Of i) hlt = i 0 := Fin.ext (by show Value.pt7Of i / 4 = _; rw [hp]; omega)
  have ht : til (Value.pt7Of i) hlt = ⟨(i 1).val / 2048, by omega⟩ := Fin.ext (by show Value.pt7Of i % 4 = _; rw [hp]; show _ = (i 1).val / 2048; omega)
  dsimp only
  rw [hb, ht]
  rfl

end Cert.KernelIdeal.Attn
-- ==== Proof.Words.lean ====
module

public import proofs.«01_k».proof.Proof.Blocks

@[expose] public section

/-! The index arithmetic of the kernel on 32-bit words: floor division and remainder by a positive constant as the kernel
    spells them, and comparisons, are those of natural numbers on the ranges that occur. -/

noncomputable section

namespace Cert.KernelIdeal.Attn

open Idealize.ShloMosaic

/-- Floor division of words as the kernel spells it: truncated division, corrected by one when the signs differ and the
    remainder is not zero. -/
def fdivW (x d : BitVec 32) : BitVec 32 :=
  Scalar.select (IntOp.andi
      (IntOp.cmpi .ne (IntOp.subi ((IntOp.cmpi .sgt x 0#32).setWidth 32) ((IntOp.cmpi .slt x 0#32).setWidth 32))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32) (IntOp.divsi .vector x d)

/-- The remainder of floor division of words as the kernel spells it. -/
def fmodW (x d : BitVec 32) : BitVec 32 :=
  Scalar.select (IntOp.andi (IntOp.xori (IntOp.cmpi .slt (IntOp.remsi .vector x d) 0#32) (Scalar.cmpi .slt d 0#32))
      (IntOp.cmpi .ne (IntOp.remsi .vector x d) 0#32))
    (IntOp.addi (IntOp.remsi .vector x d) d) (IntOp.remsi .vector x d)

theorem fdivW_64 : ∀ n : Fin 768, fdivW (BitVec.ofNat 32 n.val) 64#32 = BitVec.ofNat 32 (n.val / 64) := by decide +kernel
theorem fdivW_16 : ∀ n : Fin 384, fdivW (BitVec.ofNat 32 n.val) 16#32 = BitVec.ofNat 32 (n.val / 16) := by decide +kernel
theorem fmodW_16 : ∀ n : Fin 384, fmodW (BitVec.ofNat 32 n.val) 16#32 = BitVec.ofNat 32 (n.val % 16) := by decide +kernel
theorem fmodW_192 : ∀ n : Fin 384, fmodW (BitVec.ofNat 32 n.val) 192#32 = BitVec.ofNat 32 (n.val % 192) := by
  decide +kernel

/-- Selecting on the equality of two small words. -/
theorem select_eq {α : Type} (a b : ℕ) (ha : a < 4294967296) (hb : b < 4294967296) (x y : α) :
    Scalar.select (IntOp.cmpi .eq (BitVec.ofNat 32 a) (BitVec.ofNat 32 b)) x y = if a = b then x else y := by
  have h : (BitVec.ofNat 32 a = BitVec.ofNat 32 b) ↔ a = b := by
    constructor
    · intro h
      have := congrArg BitVec.toNat h
      simp only [BitVec.toNat_ofNat] at this
      omega
    · rintro rfl; rfl
  by_cases hab : a = b
  · rw [if_pos hab, hab]; simp [Scalar.select, IntOp.cmpi]
  · have h' : ¬BitVec.ofNat 32 a = BitVec.ofNat 32 b := fun e => hab (h.mp e)
    have hb' : (BitVec.ofNat 32 a == BitVec.ofNat 32 b) = false := beq_eq_false_iff_ne.mpr h'
    rw [if_neg hab]; simp [Scalar.select, IntOp.cmpi, hb']

theorem toInt_ofNat (a : ℕ) (ha : a < 2147483648) : (BitVec.ofNat 32 a).toInt = a := by
  rw [BitVec.toInt_eq_toNat_of_lt (by rw [BitVec.toNat_ofNat]; omega), BitVec.toNat_ofNat]
  omega

/-- Selecting on one small word being greater than another. -/
theorem select_sgt {α : Type} (a b : ℕ) (ha : a < 2147483648) (hb : b < 2147483648) (x y : α) :
    Scalar.select (IntOp.cmpi .sgt (BitVec.ofNat 32 a) (BitVec.ofNat 32 b)) x y = if b < a then x else y := by
  have h : BitVec.slt (BitVec.ofNat 32 b) (BitVec.ofNat 32 a) = decide (b < a) := by
    rw [BitVec.slt, toInt_ofNat a ha, toInt_ofNat b hb]
    simp
  by_cases hab : b < a
  · rw [if_pos hab]; simp [Scalar.select, IntOp.cmpi, h, hab]
  · rw [if_neg hab]; simp [Scalar.select, IntOp.cmpi, h, hab]

/-- Selecting on one small word being less than another. -/
theorem select_slt {α : Type} (a b : ℕ) (ha : a < 2147483648) (hb : b < 2147483648) (x y : α) :
    Scalar.select (IntOp.cmpi .slt (BitVec.ofNat 32 a) (BitVec.ofNat 32 b)) x y = if a < b then x else y := by
  have h : BitVec.slt (BitVec.ofNat 32 a) (BitVec.ofNat 32 b) = decide (a < b) := by
    rw [BitVec.slt, toInt_ofNat a ha, toInt_ofNat b hb]
    simp
  by_cases hab : a < b
  · rw [if_pos hab]; simp [Scalar.select, IntOp.cmpi, h, hab]
  · rw [if_neg hab]; simp [Scalar.select, IntOp.cmpi, h, hab]

end Cert.KernelIdeal.Attn

end
-- ==== Proof.Softmax.lean ====
module

public import Idealize.ShloMosaic.PureOps.Ideal.Laws

@[expose] public section

/-! The softmax over the extended reals, with a mask of minus infinity: as soon as one entry is visible the maximum is a
    real number, and the quotients are those of the plain exponentials. -/

noncomputable section

namespace Cert.Attn

open Idealize.ShloMosaic

/-- A finite sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A masked logit: the real `r` where `v` holds, minus infinity elsewhere. -/
def lg (v : Prop) [Decidable v] (r : ℝ) : EReal := if v then (r : EReal) else ⊥

/-- The unnormalised weight of a masked logit: `exp r` where `v` holds, zero elsewhere. -/
def wt (v : Prop) [Decidable v] (r : ℝ) : ℝ := if v then Real.exp r else 0

theorem wt_nonneg (v : Prop) [Decidable v] (r : ℝ) : 0 ≤ wt v r := by
  unfold wt; split
  · exact (Real.exp_pos r).le
  · exact le_rfl

theorem wt_pos {v : Prop} [Decidable v] (h : v) (r : ℝ) : 0 < wt v r := by
  rw [wt, if_pos h]; exact Real.exp_pos r

/-- The exponential of a masked logit less a real `M` is the weight times `exp (-M)`. -/
theorem exp_lg_sub (v : Prop) [Decidable v] (r M : ℝ) :
    Ideal.exp (lg v r - (M : EReal)) = ((wt v r * Real.exp (-M) : ℝ) : EReal) := by
  unfold lg wt
  split
  · rw [← EReal.coe_sub, Ideal.exp_coe, sub_eq_add_neg, Real.exp_add]
  · rw [EReal.bot_sub, Ideal.exp_bot, zero_mul, EReal.coe_zero]

/-- The maximum of finitely many masked logits, one of them visible, is a real number. -/
theorem max_real {ι : Type} [Fintype ι] (v : ι → Prop) [DecidablePred v] (r : ι → ℝ) (i₀ : ι) (h : v i₀) :
    ∃ M : ℝ, Finset.univ.fold max ⊥ (fun i => lg (v i) (r i)) = (M : EReal) := by
  set y := Finset.univ.fold max ⊥ (fun i => lg (v i) (r i)) with hy
  have h1 : (r i₀ : EReal) ≤ y := by
    rw [hy, Finset.le_fold_max]
    exact Or.inr ⟨i₀, Finset.mem_univ _, by rw [lg, if_pos h]⟩
  have h2 : y < ⊤ := by
    rw [hy, Finset.fold_max_lt]
    refine ⟨bot_lt_top, fun i _ => ?_⟩
    unfold lg; split
    · exact EReal.coe_lt_top _
    · exact bot_lt_top
  refine ⟨y.toReal, (EReal.coe_toReal h2.ne ?_).symm⟩
  intro hb
  rw [hb] at h1
  exact absurd (le_bot_iff.mp h1) (EReal.coe_ne_bot _)

/-- A positive common factor cancels in a quotient of reals. -/
theorem div_cancel (a D c : ℝ) (hc : 0 < c) (hD : 0 < D) :
    Ideal.div ((a * c : ℝ) : EReal) ((D * c : ℝ) : EReal) = ((a / D : ℝ) : EReal) := by
  rw [Ideal.div_coe (mul_pos hD hc).ne', ← EReal.coe_mul]
  congr 1
  field_simp

/-- A sum of weights, one of them visible, is positive. -/
theorem wt_sum_pos {ι : Type} [Fintype ι] (v : ι → Prop) [DecidablePred v] (r : ι → ℝ) (p : ι → Prop) [DecidablePred p]
    (i₀ : ι) (h : v i₀) (hp : p i₀) : 0 < ∑ i, if p i then wt (v i) (r i) else 0 := by
  refine Finset.sum_pos' (fun i _ => ?_) ⟨i₀, Finset.mem_univ _, ?_⟩
  · split
    · exact wt_nonneg _ _
    · exact le_rfl
  · rw [if_pos hp]; exact wt_pos h _

/-- One row of the kernel: the masked logits `l` of all heads side by side, one maximum over all of them, the denominators
    as a product with the 0/1 matrix `G` of equal heads, and the product with `vo`. It is the sum of the softmax weights
    within each head times `vo`, as soon as every head sees a key. -/
theorem row_value {n : ℕ} (i₀ : Fin n) (v : Fin n → Prop) [DecidablePred v] (r : Fin n → ℝ) (g : Fin n → ℕ)
    (hv : ∀ i, ∃ i', g i' = g i ∧ v i') (l : Fin n → EReal) (hl : ∀ i, l i = lg (v i) (r i))
    (G : Fin n → Fin n → EReal) (hG : ∀ i' i, G i' i = if g i' = g i then 1 else 0)
    (vo : Fin n → EReal) (VO : Fin n → ℝ) (hvo : ∀ i, vo i = (VO i : EReal)) :
    (∑ i, Ideal.div (Ideal.exp (l i - Finset.univ.fold max ⊥ l))
        (∑ i', Ideal.exp (l i' - Finset.univ.fold max ⊥ l) * G i' i) * vo i)
      = ((∑ i, wt (v i) (r i) / (∑ i', if g i' = g i then wt (v i') (r i') else 0) * VO i : ℝ) : EReal) := by
  obtain ⟨i₁, _, h₁⟩ := hv i₀
  obtain ⟨M, hM⟩ := max_real v r i₁ h₁
  have hl' : l = fun i => lg (v i) (r i) := funext hl
  rw [hl', hM, coe_sum]
  refine Finset.sum_congr rfl fun i _ => ?_
  obtain ⟨i₂, hg, h₂⟩ := hv i
  have hD : (∑ i', Ideal.exp (lg (v i') (r i') - (M : EReal)) * G i' i)
      = (((∑ i', if g i' = g i then wt (v i') (r i') else 0) * Real.exp (-M) : ℝ) : EReal) := by
    rw [Finset.sum_mul, coe_sum]
    refine Finset.sum_congr rfl fun i' _ => ?_
    rw [exp_lg_sub, hG]
    split
    · rw [mul_one]
    · rw [mul_zero, zero_mul, EReal.coe_zero]
  rw [hD, exp_lg_sub, div_cancel _ _ _ (Real.exp_pos _) (wt_sum_pos v r (fun i' => g i' = g i) i₂ h₂ hg), hvo,
    ← EReal.coe_mul]

/-- One quotient of the reference's softmax over the keys of one head. -/
theorem softmax_value {n : ℕ} (v : Fin n → Prop) [DecidablePred v] (r : Fin n → ℝ) (i₀ : Fin n) (h₀ : v i₀)
    (l : Fin n → EReal) (hl : ∀ i, l i = lg (v i) (r i)) (i : Fin n) :
    Ideal.div (Ideal.exp (l i - Finset.univ.fold max ⊥ l)) (∑ i', Ideal.exp (l i' - Finset.univ.fold max ⊥ l))
      = ((wt (v i) (r i) / ∑ i', wt (v i') (r i') : ℝ) : EReal) := by
  obtain ⟨M, hM⟩ := max_real v r i₀ h₀
  have hl' : l = fun i => lg (v i) (r i) := funext hl
  have hD : (∑ i', Ideal.exp (lg (v i') (r i') - (M : EReal)))
      = (((∑ i', wt (v i') (r i')) * Real.exp (-M) : ℝ) : EReal) := by
    rw [Finset.sum_mul, coe_sum]
    exact Finset.sum_congr rfl fun i' _ => exp_lg_sub _ _ _
  have hp : 0 < ∑ i', wt (v i') (r i') := by
    simpa using wt_sum_pos v r (fun _ => True) i₀ h₀ trivial
  rw [hl', hM, hD, exp_lg_sub, div_cancel _ _ _ (Real.exp_pos _) hp]

end Cert.Attn

end
-- ==== Proof.Spec.lean ====
module

public import proofs.«01_k».proof.Proof.Softmax

@[expose] public section

/-! The result over the reals, in the kernel's arrangement, and its equality with the reference's arrangement. All arrays
    are functions of natural numbers; `X` is one batch of the input. A kernel column `i` below 384 stands for the head
    `headK i` and the key token `tokK i`: the first 192 columns for the first sixteen tokens of the sequence, the others for
    the last sixteen. -/

noncomputable section

namespace Cert.Attn

/-- A projection: row `t` of `X` times column `c` of `W`. -/
def proj (X W : ℕ → ℕ → ℝ) (t c : ℕ) : ℝ := ∑ a : Fin 768, X t a * W a c

/-- The key token of a kernel column. -/
def tokK (i : ℕ) : ℕ := if i < 192 then i % 16 else 8176 + i % 16

/-- The head of a kernel column. -/
def headK (i : ℕ) : ℕ := i % 192 / 16

/-- The keys laid out block-diagonally. -/
def keyB (X Wk : ℕ → ℕ → ℝ) (c i : ℕ) : ℝ := if c / 64 = headK i then proj X Wk (tokK i) c else 0

/-- The query weights times the block-diagonal keys, scaled. -/
def QK (X Wq Wk : ℕ → ℕ → ℝ) (c i : ℕ) : ℝ := (∑ c' : Fin 768, Wq c c' * keyB X Wk c' i) * (1 / 8)

/-- The block-diagonal values times the output weights. -/
def VO (X Wv Wo : ℕ → ℕ → ℝ) (i e : ℕ) : ℝ :=
  ∑ c : Fin 768, (if headK i = (c : ℕ) / 64 then proj X Wv (tokK i) c else 0) * Wo c e

/-- The logit of query `q` in column `i`. -/
def L (X Wq Wk : ℕ → ℕ → ℝ) (q i : ℕ) : ℝ := ∑ c : Fin 768, X q c * QK X Wq Wk c i

/-- The unnormalised weight of query `q` in column `i`: zero where the key lies after the query. -/
def W (X Wq Wk : ℕ → ℕ → ℝ) (q i : ℕ) : ℝ := wt (tokK i ≤ q) (L X Wq Wk q i)

/-- The first `n` columns' contribution to the result's element `(q, e)`, with the denominators over those columns. -/
def partSpec (n : ℕ) (X Wq Wk Wv Wo : ℕ → ℕ → ℝ) (q e : ℕ) : ℝ :=
  ∑ i : Fin n, W X Wq Wk q i / (∑ i' : Fin n, if headK i' = headK i then W X Wq Wk q i' else 0) * VO X Wv Wo i e

/-- The result's element `(q, e)`. -/
def spec (X Wq Wk Wv Wo : ℕ → ℕ → ℝ) (q e : ℕ) : ℝ := partSpec 384 X Wq Wk Wv Wo q e

theorem sum_half (f : ℕ → ℝ) (hf : ∀ i, 192 ≤ i → i < 384 → f i = 0) : ∑ i : Fin 384, f i = ∑ i : Fin 192, f i := by
  have h := Fin.sum_univ_add (a := 192) (b := 192) fun i : Fin (192 + 192) => f i
  refine h.trans ?_
  have h0 : ∑ i : Fin 192, f ((Fin.natAdd 192 i : Fin (192 + 192)) : ℕ) = 0 :=
    Finset.sum_eq_zero fun i _ => hf _ (by simp) (by have := i.isLt; simp; omega)
  rw [h0, add_zero]
  rfl

/-- A query before the last sixteen tokens sees the first 192 columns only. -/
theorem partSpec_half (X Wq Wk Wv Wo : ℕ → ℕ → ℝ) (q e : ℕ) (hq : q < 8176) :
    partSpec 192 X Wq Wk Wv Wo q e = spec X Wq Wk Wv Wo q e := by
  have h0 : ∀ i, 192 ≤ i → i < 384 → W X Wq Wk q i = 0 := fun i hi _ => by
    rw [W, wt, if_neg]
    rw [tokK, if_neg (by omega)]
    omega
  unfold spec partSpec
  have hD : ∀ i : ℕ, (∑ i' : Fin 384, if headK i' = headK i then W X Wq Wk q i' else 0)
      = ∑ i' : Fin 192, if headK i' = headK i then W X Wq Wk q i' else 0 := fun i =>
    sum_half (fun i' => if headK i' = headK i then W X Wq Wk q i' else 0) fun i' h1 h2 => by
      rw [h0 i' h1 h2, ite_self]
  simp only [hD]
  exact (sum_half (fun i => W X Wq Wk q i / (∑ i' : Fin 192, if headK i' = headK i then W X Wq Wk q i' else 0)
    * VO X Wv Wo i e) fun i h1 h2 => by rw [h0 i h1 h2, zero_div, zero_mul]).symm

/-! ## The reference's arrangement -/

/-- The key token of the reference's key `j`. -/
def tokR (j : ℕ) : ℕ := if j < 16 then j else 8160 + j

/-- The reference's logit of query `q` and key `j` in head `h`. -/
def LR (X Wq Wk : ℕ → ℕ → ℝ) (q h j : ℕ) : ℝ :=
  (∑ d : Fin 64, proj X Wq q (64 * h + d) * proj X Wk (tokR j) (64 * h + d)) / 8

/-- The reference's softmax weight. -/
def PR (X Wq Wk : ℕ → ℕ → ℝ) (q h j : ℕ) : ℝ :=
  wt (tokR j ≤ q) (LR X Wq Wk q h j) / ∑ j' : Fin 32, wt (tokR j' ≤ q) (LR X Wq Wk q h j')

/-- The reference's element `(q, e)`. -/
def refSpec (X Wq Wk Wv Wo : ℕ → ℕ → ℝ) (q e : ℕ) : ℝ :=
  ∑ c : Fin 768, (∑ j : Fin 32, PR X Wq Wk q ((c : ℕ) / 64) j * proj X Wv (tokR j) c) * Wo c e

/-- The kernel column of head `h` and the reference's key `j`. -/
def col (h j : ℕ) : ℕ := j / 16 * 192 + 16 * h + j % 16

theorem headK_col (h j : ℕ) (hh : h < 12) (hj : j < 32) : headK (col h j) = h := by unfold headK col; omega

theorem tokK_col (h j : ℕ) (hh : h < 12) (hj : j < 32) : tokK (col h j) = tokR j := by
  unfold tokK tokR col; split <;> split <;> omega

/-- Columns are the pairs of a head and a key. -/
def colEquiv : Fin 12 × Fin 32 ≃ Fin 384 where
  toFun p := ⟨col p.1 p.2, by have := p.1.isLt; have := p.2.isLt; unfold col; omega⟩
  invFun i := (⟨i.val % 192 / 16, by omega⟩, ⟨i.val / 192 * 16 + i.val % 16, by omega⟩)
  left_inv p := by
    have := p.1.isLt; have := p.2.isLt
    refine Prod.ext (Fin.ext ?_) (Fin.ext ?_)
    · show col p.1 p.2 % 192 / 16 = p.1
      unfold col; omega
    · show col p.1 p.2 / 192 * 16 + col p.1 p.2 % 16 = p.2
      unfold col; omega
  right_inv i := by
    refine Fin.ext ?_
    show col (i.val % 192 / 16) (i.val / 192 * 16 + i.val % 16) = i.val
    unfold col; omega

theorem sum_cols (f : ℕ → ℝ) : ∑ i : Fin 384, f i = ∑ h : Fin 12, ∑ j : Fin 32, f (col h j) := by
  rw [← Equiv.sum_comp colEquiv (fun i : Fin 384 => f i), Fintype.sum_prod_type]
  rfl

/-- Features are the pairs of a head and a position in it. -/
theorem sum_feat (f : ℕ → ℝ) : ∑ c : Fin 768, f c = ∑ h : Fin 12, ∑ d : Fin 64, f (64 * h + d) := by
  rw [← Equiv.sum_comp (finProdFinEquiv (m := 12) (n := 64)) (fun c : Fin 768 => f c), Fintype.sum_prod_type]
  refine Finset.sum_congr rfl fun h _ => Finset.sum_congr rfl fun d _ => ?_
  congr 1
  show (d : ℕ) + 64 * h = 64 * h + d
  omega

/-- The kernel's logit is the reference's: the products are regrouped. -/
theorem L_col (X Wq Wk : ℕ → ℕ → ℝ) (q h j : ℕ) (hh : h < 12) (hj : j < 32) :
    L X Wq Wk q (col h j) = LR X Wq Wk q h j := by
  have h1 : L X Wq Wk q (col h j) = (∑ c' : Fin 768, proj X Wq q c' * keyB X Wk c' (col h j)) / 8 := by
    unfold L QK proj
    simp only [← mul_assoc, Finset.mul_sum, Finset.sum_mul, Finset.sum_div]
    rw [Finset.sum_comm]
    refine Finset.sum_congr rfl fun c _ => Finset.sum_congr rfl fun c' _ => ?_
    ring
  rw [h1, LR, sum_feat fun c' => proj X Wq q c' * keyB X Wk c' (col h j)]
  congr 1
  rw [Finset.sum_eq_single (⟨h, hh⟩ : Fin 12)]
  · refine Finset.sum_congr rfl fun d _ => ?_
    have := d.isLt
    rw [keyB, headK_col h j hh hj, tokK_col h j hh hj, if_pos (by show (64 * h + d.val) / 64 = h; omega)]
  · intro h' _ hne
    refine Finset.sum_eq_zero fun d _ => ?_
    have := d.isLt
    have hne' : h'.val ≠ h := fun e => hne (Fin.ext e)
    rw [keyB, headK_col h j hh hj, if_neg (by omega), mul_zero]
  · intro hx; exact absurd (Finset.mem_univ _) hx

theorem W_col (X Wq Wk : ℕ → ℕ → ℝ) (q h j : ℕ) (hh : h < 12) (hj : j < 32) :
    W X Wq Wk q (col h j) = wt (tokR j ≤ q) (LR X Wq Wk q h j) := by
  unfold W
  rw [L_col X Wq Wk q h j hh hj]
  simp only [tokK_col h j hh hj]

/-- The reference's arrangement and the kernel's give the same number. -/
theorem refSpec_eq (X Wq Wk Wv Wo : ℕ → ℕ → ℝ) (q e : ℕ) : refSpec X Wq Wk Wv Wo q e = spec X Wq Wk Wv Wo q e := by
  have hD : ∀ h : Fin 12, ∀ j : Fin 32, (∑ i' : Fin 384, if headK i' = headK (col h j) then W X Wq Wk q i' else 0)
      = ∑ j' : Fin 32, wt (tokR j' ≤ q) (LR X Wq Wk q h j') := fun h j => by
    rw [headK_col h j h.isLt j.isLt, sum_cols fun i' => if headK i' = h then W X Wq Wk q i' else 0,
      Finset.sum_eq_single h]
    · refine Finset.sum_congr rfl fun j' _ => ?_
      rw [if_pos (headK_col h j' h.isLt j'.isLt), W_col X Wq Wk q h j' h.isLt j'.isLt]
    · intro h' _ hne
      refine Finset.sum_eq_zero fun j' _ => if_neg ?_
      rw [headK_col h' j' h'.isLt j'.isLt]
      exact fun e => hne (Fin.ext e)
    · intro hx; exact absurd (Finset.mem_univ _) hx
  unfold spec partSpec
  rw [sum_cols fun i => W X Wq Wk q i / (∑ i' : Fin 384, if headK i' = headK i then W X Wq Wk q i' else 0)
    * VO X Wv Wo i e]
  have hR : refSpec X Wq Wk Wv Wo q e = ∑ h : Fin 12, ∑ j : Fin 32, PR X Wq Wk q h j * VO X Wv Wo (col h j) e := by
    unfold refSpec VO
    simp only [Finset.sum_mul, Finset.mul_sum]
    rw [sum_feat fun c => ∑ j : Fin 32, PR X Wq Wk q (c / 64) j * proj X Wv (tokR j) c * Wo c e]
    refine Finset.sum_congr rfl fun h _ => ?_
    rw [Finset.sum_comm]
    refine Finset.sum_congr rfl fun j _ => ?_
    rw [sum_feat fun c => PR X Wq Wk q h j * ((if headK (col h j) = c / 64 then proj X Wv (tokK (col h j)) c else 0)
      * Wo c e), Finset.sum_eq_single h]
    · refine Finset.sum_congr rfl fun d _ => ?_
      have := d.isLt
      have hc : (64 * (h : ℕ) + d) / 64 = h := by omega
      rw [headK_col h j h.isLt j.isLt, tokK_col h j h.isLt j.isLt, hc, if_pos rfl, mul_assoc]
    · intro h' _ hne
      refine Finset.sum_eq_zero fun d _ => ?_
      have := d.isLt
      have hne' : h'.val ≠ h.val := fun e => hne (Fin.ext e)
      rw [headK_col h j h.isLt j.isLt, if_neg (by omega), zero_mul, mul_zero]
    · intro hx; exact absurd (Finset.mem_univ _) hx
  rw [hR]
  refine Finset.sum_congr rfl fun h _ => Finset.sum_congr rfl fun j _ => ?_
  rw [hD h j, W_col X Wq Wk q h j h.isLt j.isLt, PR]

end Cert.Attn

end
-- ==== Proof.Prep.lean ====
module

public import proofs.«01_k».proof.Proof.Words
public import proofs.«01_k».proof.Proof.Spec
public import Idealize.ShloMosaic.Lib.Pointwise

@[expose] public section

/-! The arrays that the first tile of a batch prepares, read at an element over the extended reals, for real inputs. -/

set_option maxRecDepth 16384

noncomputable section

namespace Cert.KernelIdeal.Attn

open Cert.KernelIdeal Cert.KernelIdeal.Gen Idealize.ShloMosaic Idealize.ShloMosaic.TcCoe Idealize.SL.Sem Cert.Attn

variable (x0 x1 : Vec Ideal S1x16x768 .f32) (wq wk wv wo : Vec Ideal S768x768 .f32)

theorem pay8_iota (j : S768x192.Idx) : k0_pay8 j = fdivW (iota .tc S768x192 32 [0] iota_S768x192_d0_w32 j) 64#32 := rfl

theorem kbdA_iota (j : S768x192.Idx) : kbdA x0 x1 wk j
    = Scalar.select (IntOp.cmpi .eq (k0_pay8 j) (fdivW (iota .tc S768x192 32 [1] iota_S768x192_d1_w32 j) 16#32))
        (k0_pay7 x0 x1 wk j) (Ideal.ofBits .f32 0x00000000#32) := rfl

theorem kbdA_apply (c : Fin 768) (i : Fin 192) : kbdA x0 x1 wk (ix2 c i)
    = if c.val / 64 = i.val / 16 then k0_pay7 x0 x1 wk (ix2 c i) else 0 := by
  rw [kbdA_iota, pay8_iota, iota_apply, iota_apply, Ideal.ofBits_zero_f32]
  pointwise
  rw [fdivW_64 c, fdivW_16 ⟨i.val, by omega⟩, select_eq _ _ (by omega) (by omega)]

theorem pay6_apply (c : Fin 768) (j : Fin 32) : k0_pay6 x0 x1 wk (ix2 c j)
    = ∑ a : Fin 768, wk (ix2 a c) * k0_pay5 x0 x1 (ix2 j a) := by
  unfold k0_pay6
  pointwise

theorem pay5_apply (j : Fin 32) (a : Fin 768) : k0_pay5 x0 x1 (ix2 j a)
    = if h : j.val < 16 then x0 (ix3 0 ⟨j.val, h⟩ a) else x1 (ix3 0 ⟨j.val - 16, by omega⟩ a) := by
  unfold k0_pay5
  pointwise

theorem pay7_apply (c : Fin 768) (i : Fin 192) : k0_pay7 x0 x1 wk (ix2 c i)
    = k0_pay6 x0 x1 wk (ix2 c ⟨i.val % 16, by omega⟩) := by
  unfold k0_pay7
  refine (concatenate_ofFn_apply (t := S768x192) (s₁ := S768x16) 1 (N := 12) (fun _ => extractStridedSlice S768x16 ![0, 0] (k0_pay6 x0 x1 wk) slices_S768x32_o0_0_S768x16) _ rfl 16 rfl (ix2 c i) ⟨i.val / 16, by omega⟩ rfl (ix2 c ⟨i.val % 16, by omega⟩) rfl ?_).trans ?_
  · intro b hb; fin_cases b
    · rfl
    · exact absurd rfl hb
  · pointwise

/-! ## The second key tile -/

/-- The block-diagonal keys of the second tile. -/
def kbdB : FVec Ideal S768x192 .f32 := fun j =>
  Scalar.select (IntOp.cmpi .eq (k0_pay14 j) (fdivW (iota .tc S768x192 32 [1] iota_S768x192_d1_w32 j) 16#32))
    (k0_pay13 (k0_pay6 x0 x1 wk) j) (Ideal.ofBits .f32 0x00000000#32)

theorem pay14_iota (j : S768x192.Idx) : k0_pay14 j = fdivW (iota .tc S768x192 32 [0] iota_S768x192_d0_w32 j) 64#32 := rfl

theorem pay13_apply (y : FVec Ideal S768x32 .f32) (c : Fin 768) (i : Fin 192) : k0_pay13 y (ix2 c i)
    = y (ix2 c ⟨16 + i.val % 16, by omega⟩) := by
  unfold k0_pay13
  refine (concatenate_ofFn_apply (t := S768x192) (s₁ := S768x16) 1 (N := 12) (fun _ => extractStridedSlice S768x16 ![0, 16] y slices_S768x32_o0_16_S768x16) _ rfl 16 rfl (ix2 c i) ⟨i.val / 16, by omega⟩ rfl (ix2 c ⟨i.val % 16, by omega⟩) rfl ?_).trans ?_
  · intro b hb; fin_cases b
    · rfl
    · exact absurd rfl hb
  · pointwise

theorem kbdB_apply (c : Fin 768) (i : Fin 192) : kbdB x0 x1 wk (ix2 c i)
    = if c.val / 64 = i.val / 16 then k0_pay6 x0 x1 wk (ix2 c ⟨16 + i.val % 16, by omega⟩) else 0 := by
  unfold kbdB
  rw [pay14_iota, iota_apply, iota_apply, Ideal.ofBits_zero_f32, pay13_apply]
  pointwise
  rw [fdivW_64 c, fdivW_16 ⟨i.val, by omega⟩, select_eq _ _ (by omega) (by omega)]

/-! ## The query weights times the keys -/

theorem pay15_apply (y : FVec Ideal S768x192 .f32) (c : Fin 768) (i : Fin 192) : k0_pay15 y wq (ix2 c i)
    = (∑ c' : Fin 768, wq (ix2 c c') * y (ix2 c' i)) * Ideal.ofBits .f32 0x3E000000#32 := by
  unfold k0_pay15
  pointwise

theorem qkH_apply (c : Fin 768) (i : Fin 192) : qkH x0 x1 wq wk (ix2 c i) = k0_pay15 (kbdA x0 x1 wk) wq (ix2 c i) := by
  unfold qkH k0_pay17
  pointwise

theorem qkW_eq : qkW x0 x1 wq wk = shapeCast S768x384 (concatenate S768x384 1
    [⟨S768x192, k0_pay15 (kbdA x0 x1 wk) wq⟩, ⟨S768x192, k0_pay15 (kbdB x0 x1 wk) wq⟩]
    concatenates_S768x192_S768x192_S768x384_d1) shapeCasts_S768x384_S768x384 := rfl

theorem qkW_apply (c : Fin 768) (i : Fin 384) : qkW x0 x1 wq wk (ix2 c i)
    = if h : i.val < 192 then k0_pay15 (kbdA x0 x1 wk) wq (ix2 c ⟨i.val, h⟩)
      else k0_pay15 (kbdB x0 x1 wk) wq (ix2 c ⟨i.val - 192, by omega⟩) := by
  rw [qkW_eq]
  pointwise

/-! ## The values times the output weights -/

theorem pay18_apply (j : Fin 32) (c : Fin 768) : k0_pay18 (k0_pay5 x0 x1) wv (ix2 j c)
    = ∑ a : Fin 768, k0_pay5 x0 x1 (ix2 j a) * wv (ix2 a c) := by
  unfold k0_pay18
  pointwise

theorem pay19_apply (i : Fin 192) (c : Fin 768) : k0_pay19 (k0_pay5 x0 x1) wv (ix2 i c)
    = k0_pay18 (k0_pay5 x0 x1) wv (ix2 ⟨i.val % 16, by omega⟩ c) := by
  unfold k0_pay19
  refine (concatenate_ofFn_apply (t := S192x768) (s₁ := S16x768) 0 (N := 12) (fun _ => extractStridedSlice S16x768 ![0, 0] (k0_pay18 (k0_pay5 x0 x1) wv) slices_S32x768_o0_0_S16x768) _ rfl 16 rfl (ix2 i c) ⟨i.val / 16, by omega⟩ rfl (ix2 ⟨i.val % 16, by omega⟩ c) rfl ?_).trans ?_
  · intro b hb; fin_cases b
    · exact absurd rfl hb
    · rfl
  · pointwise

theorem pay24_apply (y : FVec Ideal S32x768 .f32) (i : Fin 192) (c : Fin 768) : k0_pay24 y (ix2 i c)
    = y (ix2 ⟨16 + i.val % 16, by omega⟩ c) := by
  unfold k0_pay24
  refine (concatenate_ofFn_apply (t := S192x768) (s₁ := S16x768) 0 (N := 12) (fun _ => extractStridedSlice S16x768 ![16, 0] y slices_S32x768_o16_0_S16x768) _ rfl 16 rfl (ix2 i c) ⟨i.val / 16, by omega⟩ rfl (ix2 ⟨i.val % 16, by omega⟩ c) rfl ?_).trans ?_
  · intro b hb; fin_cases b
    · exact absurd rfl hb
    · rfl
  · pointwise

theorem pay20_iota (j : S192x768.Idx) : k0_pay20 j = fdivW (iota .tc S192x768 32 [0] iota_S192x768_d0_w32 j) 16#32 := rfl

theorem pay25_iota (j : S192x768.Idx) : k0_pay25 j = fdivW (iota .tc S192x768 32 [0] iota_S192x768_d0_w32 j) 16#32 := rfl

theorem vbdA_iota (j : S192x768.Idx) : vbdA x0 x1 wv j
    = Scalar.select (IntOp.cmpi .eq (k0_pay20 j) (fdivW (iota .tc S192x768 32 [1] iota_S192x768_d1_w32 j) 64#32))
        (k0_pay19 (k0_pay5 x0 x1) wv j) (Ideal.ofBits .f32 0x00000000#32) := rfl

theorem vbdA_apply (i : Fin 192) (c : Fin 768) : vbdA x0 x1 wv (ix2 i c)
    = if i.val / 16 = c.val / 64 then k0_pay18 (k0_pay5 x0 x1) wv (ix2 ⟨i.val % 16, by omega⟩ c) else 0 := by
  rw [vbdA_iota, pay20_iota, iota_apply, iota_apply, Ideal.ofBits_zero_f32, pay19_apply]
  pointwise
  rw [fdivW_64 c, fdivW_16 ⟨i.val, by omega⟩, select_eq _ _ (by omega) (by omega)]

/-- The block-diagonal values of the second tile. -/
def vbdB : FVec Ideal S192x768 .f32 := fun j =>
  Scalar.select (IntOp.cmpi .eq (k0_pay25 j) (fdivW (iota .tc S192x768 32 [1] iota_S192x768_d1_w32 j) 64#32))
    (k0_pay24 (k0_pay18 (k0_pay5 x0 x1) wv) j) (Ideal.ofBits .f32 0x00000000#32)

theorem vbdB_apply (i : Fin 192) (c : Fin 768) : vbdB x0 x1 wv (ix2 i c)
    = if i.val / 16 = c.val / 64 then k0_pay18 (k0_pay5 x0 x1) wv (ix2 ⟨16 + i.val % 16, by omega⟩ c) else 0 := by
  unfold vbdB
  rw [pay25_iota, iota_apply, iota_apply, Ideal.ofBits_zero_f32, pay24_apply]
  pointwise
  rw [fdivW_64 c, fdivW_16 ⟨i.val, by omega⟩, select_eq _ _ (by omega) (by omega)]

theorem pay28_apply (y : FVec Ideal S192x768 .f32) (i : Fin 192) (e : Fin 768) : k0_pay28 y wo (ix2 i e)
    = ∑ c : Fin 768, y (ix2 i c) * wo (ix2 c e) := by
  unfold k0_pay28
  pointwise

theorem voH_apply (i : Fin 192) (e : Fin 768) : voH x0 x1 wv wo (ix2 i e) = k0_pay28 (vbdA x0 x1 wv) wo (ix2 i e) := by
  unfold voH k0_pay30
  pointwise

theorem voW_eq : voW x0 x1 wv wo = shapeCast S384x768 (concatenate S384x768 0
    [⟨S192x768, k0_pay28 (vbdA x0 x1 wv) wo⟩, ⟨S192x768, k0_pay28 (vbdB x0 x1 wv) wo⟩]
    concatenates_S192x768_S192x768_S384x768_d0) shapeCasts_S384x768_S384x768 := rfl

theorem voW_apply (i : Fin 384) (e : Fin 768) : voW x0 x1 wv wo (ix2 i e)
    = if h : i.val < 192 then k0_pay28 (vbdA x0 x1 wv) wo (ix2 ⟨i.val, h⟩ e)
      else k0_pay28 (vbdB x0 x1 wv) wo (ix2 ⟨i.val - 192, by omega⟩ e) := by
  rw [voW_eq]
  pointwise

/-! ## The 0/1 matrices of equal heads -/

theorem ggH_iota (j : S192x192.Idx) : (k0_pay38 (iota .tc S192x192 32 [0] iota_S192x192_d0_w32)
      (iota .tc S192x192 32 [1] iota_S192x192_d1_w32) 16#32 k0_pay36 k0_pay37) j
    = IntOp.cmpi .eq (fdivW (iota .tc S192x192 32 [0] iota_S192x192_d0_w32 j) 16#32)
        (fdivW (iota .tc S192x192 32 [1] iota_S192x192_d1_w32 j) 16#32) := rfl

theorem ggH_apply (i' i : Fin 192) : (ggH : FVec Ideal S192x192 .f32) (ix2 i' i)
    = if i'.val / 16 = i.val / 16 then Ideal.ofBits .f32 0x3F800000#32 else 0 := by
  unfold ggH k0_pay1
  pointwise
  rw [ggH_iota, iota_apply, iota_apply]
  pointwise
  rw [fdivW_16 ⟨i.val, by omega⟩, fdivW_16 ⟨i'.val, by omega⟩, select_eq _ _ (by omega) (by omega)]

theorem pay31_iota (j : S384x384.Idx) : k0_pay31 (iota .tc S384x384 32 [0] iota_S384x384_d0_w32) 192#32 j
    = fdivW (fmodW (iota .tc S384x384 32 [0] iota_S384x384_d0_w32 j) 192#32) 16#32 := rfl

theorem ggW_eq : (ggW : FVec Ideal S384x384 .f32) = shapeCast S384x384 (fun j =>
      Scalar.select (IntOp.cmpi .eq (k0_pay31 (iota .tc S384x384 32 [0] iota_S384x384_d0_w32) 192#32 j)
        (fdivW (fmodW (iota .tc S384x384 32 [1] iota_S384x384_d1_w32 j) 192#32) 16#32))
        (Ideal.ofBits .f32 0x3F800000#32) (Ideal.ofBits .f32 0x00000000#32)) shapeCasts_S384x384_S384x384 := rfl

theorem ggW_apply (i' i : Fin 384) : (ggW : FVec Ideal S384x384 .f32) (ix2 i' i)
    = if i'.val % 192 / 16 = i.val % 192 / 16 then Ideal.ofBits .f32 0x3F800000#32 else 0 := by
  rw [ggW_eq]
  pointwise
  rw [pay31_iota, iota_apply]
  pointwise
  rw [fmodW_192 i, fmodW_192 i', fdivW_16 ⟨i.val % 192, by omega⟩, fdivW_16 ⟨i'.val % 192, by omega⟩,
    select_eq _ _ (by omega) (by omega)]

end Cert.KernelIdeal.Attn

end
-- ==== Proof.Rows.lean ====
module

public import proofs.«01_k».proof.Proof.Prep

@[expose] public section

/-! What a grid point writes to its output block, read at an element over the extended reals: one row of the masked softmax
    and its product with the prepared values. -/

set_option maxRecDepth 16384

noncomputable section

namespace Cert.KernelIdeal.Attn

open Cert.KernelIdeal Cert.KernelIdeal.Gen Idealize.ShloMosaic Idealize.ShloMosaic.TcCoe Idealize.SL.Sem Cert.Attn

/-- One row: the logits less their maximum, exponentiated, divided by the product with `G`, times `vo`. -/
def row {n : ℕ} (l : Fin n → EReal) (G : Fin n → Fin n → EReal) (vo : Fin n → EReal) : EReal :=
  ∑ i, Ideal.div (Ideal.exp (l i - Finset.univ.fold max ⊥ l))
    (∑ i', Ideal.exp (l i' - Finset.univ.fold max ⊥ l) * G i' i) * vo i

variable (x : Vec Ideal S1x2048x768 .f32) (y : Vec Ideal S1x16x768 .f32) (qk : Vec Ideal S768x192 .f32)
  (gg : Vec Ideal S192x192 .f32) (vo : Vec Ideal S192x768 .f32) (qk2 : Vec Ideal S768x384 .f32)
  (gg2 : Vec Ideal S384x384 .f32) (vo2 : Vec Ideal S384x768 .f32)

theorem ofBits_neg_inf : Ideal.ofBits .f32 0xFF800000#32 = (⊥ : EReal) := by
  simp [Ideal.ofBits, Ideal.ieee]

theorem mask_bot : (Named.named κ "mask" 0xD01502F9#32 : Ideal .f32) = (⊥ : EReal) := rfl

theorem one_or_sixteen : Scalar.select (Scalar.cmpi .eq 16#32 0#32) 1#32 16#32 = 16#32 := rfl

/-- The causal mask of the first tile. -/
theorem mask_first (r : Fin 2048) (i : Fin 192) (a b : EReal) :
    Scalar.select (IntOp.cmpi .sgt (fmodW (BitVec.ofNat 32 i.val) 16#32) (BitVec.ofNat 32 r.val)) a b
      = if r.val < i.val % 16 then a else b := by
  rw [fmodW_16 ⟨i.val, by omega⟩, select_sgt _ _ (by omega) (by omega)]

theorem addi_ofNat (a b : ℕ) : IntOp.addi (BitVec.ofNat 32 a) (BitVec.ofNat 32 b) = BitVec.ofNat 32 (a + b) :=
  (BitVec.ofNat_add a b).symm

/-- The causal mask of the recomputed last sixteen rows, over both key tiles. -/
theorem mask_last (r : Fin 16) (i : Fin 384) (a b : EReal) :
    Scalar.select (IntOp.cmpi .sgt (Scalar.select (IntOp.cmpi .slt (BitVec.ofNat 32 i.val) 192#32)
        (fmodW (BitVec.ofNat 32 i.val) 16#32) (IntOp.addi 8176#32 (fmodW (BitVec.ofNat 32 i.val) 16#32)))
        (IntOp.addi 8176#32 (BitVec.ofNat 32 r.val))) a b
      = if 8176 + r.val < tokK i.val then a else b := by
  rw [fmodW_16 i, addi_ofNat, addi_ofNat, select_slt i.val 192 (by omega) (by omega)]
  unfold tokK
  split
  · rw [select_sgt _ _ (by omega) (by omega)]
  · rw [select_sgt _ _ (by omega) (by omega)]

theorem pay3_apply (r : Fin 2048) (e : Fin 768) : k0_pay3 x qk gg vo (ix3 0 r e)
    = row (fun i : Fin 192 => ∑ c : Fin 768, x (ix3 0 r c) * qk (ix2 c i)) (fun i' i => gg (ix2 i' i))
        (fun i => vo (ix2 i e)) := by
  unfold k0_pay3 row
  pointwise
  rw [ofBits_neg_inf]

theorem pay39_apply (r : Fin 2048) (e : Fin 768) : k0_pay2 (k0_pay39 x qk gg vo) (ix3 0 r e)
    = row (fun i : Fin 192 => if r.val < i.val % 16 then ⊥ else ∑ c : Fin 768, x (ix3 0 r c) * qk (ix2 c i))
        (fun i' i => gg (ix2 i' i)) (fun i => vo (ix2 i e)) := by
  have hm := mask_first r
  unfold fmodW at hm
  unfold k0_pay2 k0_pay39 row
  pointwise
  simp only [one_or_sixteen, hm, mask_bot, ofBits_neg_inf]

theorem fixup_apply (r : Fin 16) (e : Fin 768) : fixup y qk2 gg2 vo2 (ix3 0 r e)
    = row (fun i : Fin 384 => if 8176 + r.val < tokK i.val then ⊥ else ∑ c : Fin 768, y (ix3 0 r c) * qk2 (ix2 c i))
        (fun i' i => gg2 (ix2 i' i)) (fun i => vo2 (ix2 i e)) := by
  have hm := mask_last r
  unfold fmodW at hm
  unfold fixup k0_pay4 k0_pay40 k0_pay41 k0_pay42 k0_pay43 k0_pay45 k0_pay46 k0_pay44 row
  pointwise
  simp only [one_or_sixteen, hm, mask_bot, ofBits_neg_inf]

end Cert.KernelIdeal.Attn

end
-- ==== Proof.BlockValue.lean ====
module

public import proofs.«01_k».proof.Proof.Rows
public import proofs.«01_k».proof.Proof.State
public import Idealize.ShloMosaic.Lib.IdealHost

@[expose] public section

/-! For real inputs the prepared arrays and every row of the kernel's result are real, and the result is the specification. -/

set_option maxRecDepth 16384

noncomputable section

namespace Cert.KernelIdeal.Attn

open Cert.KernelIdeal Cert.KernelIdeal.Gen Idealize.ShloMosaic Idealize.ShloMosaic.TcCoe Idealize.SL.Sem Cert.Attn

/-- A weight matrix holds the reals `M`. -/
def IsMat (w : Vec Ideal S768x768 .f32) (M : ℕ → ℕ → ℝ) : Prop := ∀ a b : Fin 768, w (ix2 a b) = ((M a b : ℝ) : EReal)

/-- A block of `n` rows holds the rows of `X` from `o` on. -/
def IsRows {n : ℕ} (x : Vec Ideal ⟨3, ![1, n, 768]⟩ .f32) (X : ℕ → ℕ → ℝ) (o : ℕ) : Prop :=
  ∀ (r : Fin n) (c : Fin 768), x (ix3 0 r c) = ((X (o + r) c : ℝ) : EReal)

theorem ofBits_eighth : Ideal.ofBits .f32 0x3E000000#32 = ((1 / 8 : ℝ) : EReal) := by
  simp [Ideal.ofBits, Ideal.ieee, -EReal.coe_mul]; norm_num

variable {x0 x1 : Vec Ideal S1x16x768 .f32} {wq wk wv wo : Vec Ideal S768x768 .f32} {X Wq Wk Wv Wo : ℕ → ℕ → ℝ}

theorem pay5_val (h0 : IsRows x0 X 0) (h1 : IsRows x1 X 8176) (j : Fin 32) (a : Fin 768) :
    k0_pay5 x0 x1 (ix2 j a) = ((X (tokR j) a : ℝ) : EReal) := by
  rw [pay5_apply, tokR]
  split
  · rw [h0, Nat.zero_add]
  · rw [h1]
    have e : 8176 + (j.val - 16) = 8160 + j.val := by omega
    simp only [e]

theorem pay6_val (h0 : IsRows x0 X 0) (h1 : IsRows x1 X 8176) (hk : IsMat wk Wk) (c : Fin 768) (j : Fin 32) :
    k0_pay6 x0 x1 wk (ix2 c j) = ((proj X Wk (tokR j) c : ℝ) : EReal) := by
  rw [pay6_apply, proj, coe_sum]
  refine Finset.sum_congr rfl fun a _ => ?_
  rw [hk, pay5_val h0 h1, ← EReal.coe_mul, mul_comm]

theorem pay18_val (h0 : IsRows x0 X 0) (h1 : IsRows x1 X 8176) (hv : IsMat wv Wv) (j : Fin 32) (c : Fin 768) :
    k0_pay18 (k0_pay5 x0 x1) wv (ix2 j c) = ((proj X Wv (tokR j) c : ℝ) : EReal) := by
  rw [pay18_apply, proj, coe_sum]
  refine Finset.sum_congr rfl fun a _ => ?_
  rw [hv, pay5_val h0 h1, ← EReal.coe_mul]

/-- A column of the first half. -/
theorem col_first (i : ℕ) (hi : i < 192) : headK i = i / 16 ∧ tokK i = tokR (i % 16) := by
  unfold headK tokK tokR
  rw [if_pos hi, if_pos (by omega)]
  omega

/-- A column of the second half. -/
theorem col_second (i : ℕ) (hi : i < 192) : headK (192 + i) = i / 16 ∧ tokK (192 + i) = tokR (16 + i % 16) := by
  unfold headK tokK tokR
  rw [if_neg (by omega), if_neg (by omega)]
  omega

theorem kbdA_val (h0 : IsRows x0 X 0) (h1 : IsRows x1 X 8176) (hk : IsMat wk Wk) (c : Fin 768) (i : Fin 192) :
    kbdA x0 x1 wk (ix2 c i) = ((keyB X Wk c i : ℝ) : EReal) := by
  rw [kbdA_apply, pay7_apply, pay6_val h0 h1 hk, keyB, (col_first i i.isLt).1, (col_first i i.isLt).2]
  split
  · rfl
  · rfl

theorem kbdB_val (h0 : IsRows x0 X 0) (h1 : IsRows x1 X 8176) (hk : IsMat wk Wk) (c : Fin 768) (i : Fin 192) :
    kbdB x0 x1 wk (ix2 c i) = ((keyB X Wk c (192 + i) : ℝ) : EReal) := by
  rw [kbdB_apply, pay6_val h0 h1 hk, keyB, (col_second i i.isLt).1, (col_second i i.isLt).2]
  split
  · rfl
  · rfl

theorem pay15_val (hq : IsMat wq Wq) (y : FVec Ideal S768x192 .f32) (i : Fin 192) (k : ℕ)
    (hy : ∀ c' : Fin 768, y (ix2 c' i) = ((keyB X Wk c' k : ℝ) : EReal)) (c : Fin 768) :
    k0_pay15 y wq (ix2 c i) = ((QK X Wq Wk c k : ℝ) : EReal) := by
  rw [pay15_apply, ofBits_eighth, QK, EReal.coe_mul, coe_sum]
  congr 1
  refine Finset.sum_congr rfl fun c' _ => ?_
  rw [hq, hy, ← EReal.coe_mul]

theorem qkH_val (h0 : IsRows x0 X 0) (h1 : IsRows x1 X 8176) (hq : IsMat wq Wq) (hk : IsMat wk Wk) (c : Fin 768) (i : Fin 192) :
    qkH x0 x1 wq wk (ix2 c i) = ((QK X Wq Wk c i : ℝ) : EReal) := by
  rw [qkH_apply, pay15_val hq _ i i fun c' => kbdA_val h0 h1 hk c' i]

theorem qkW_val (h0 : IsRows x0 X 0) (h1 : IsRows x1 X 8176) (hq : IsMat wq Wq) (hk : IsMat wk Wk) (c : Fin 768) (i : Fin 384) :
    qkW x0 x1 wq wk (ix2 c i) = ((QK X Wq Wk c i : ℝ) : EReal) := by
  rw [qkW_apply]
  split
  · rename_i h
    exact pay15_val hq _ ⟨i.val, h⟩ i.val (fun c' => kbdA_val h0 h1 hk c' ⟨i.val, h⟩) c
  · rename_i h
    refine pay15_val hq _ _ i.val (fun c' => ?_) c
    rw [kbdB_val h0 h1 hk]
    have e : 192 + (i.val - 192) = i.val := by omega
    simp only [e]

theorem vbdA_val (h0 : IsRows x0 X 0) (h1 : IsRows x1 X 8176) (hv : IsMat wv Wv) (i : Fin 192) (c : Fin 768) :
    vbdA x0 x1 wv (ix2 i c) = (((if headK i = (c : ℕ) / 64 then proj X Wv (tokK i) c else 0 : ℝ)) : EReal) := by
  rw [vbdA_apply, pay18_val h0 h1 hv, (col_first i i.isLt).1, (col_first i i.isLt).2]
  split
  · rfl
  · rfl

theorem vbdB_val (h0 : IsRows x0 X 0) (h1 : IsRows x1 X 8176) (hv : IsMat wv Wv) (i : Fin 192) (c : Fin 768) :
    vbdB x0 x1 wv (ix2 i c)
      = (((if headK (192 + i) = (c : ℕ) / 64 then proj X Wv (tokK (192 + i)) c else 0 : ℝ)) : EReal) := by
  rw [vbdB_apply, pay18_val h0 h1 hv, (col_second i i.isLt).1, (col_second i i.isLt).2]
  split
  · rfl
  · rfl

theorem pay28_val (ho : IsMat wo Wo) (y : FVec Ideal S192x768 .f32) (i : Fin 192) (k : ℕ)
    (hy : ∀ c : Fin 768, y (ix2 i c) = (((if headK k = (c : ℕ) / 64 then proj X Wv (tokK k) c else 0 : ℝ)) : EReal)) (e : Fin 768) :
    k0_pay28 y wo (ix2 i e) = ((VO X Wv Wo k e : ℝ) : EReal) := by
  rw [pay28_apply, VO, coe_sum]
  refine Finset.sum_congr rfl fun c _ => ?_
  rw [hy, ho, ← EReal.coe_mul]

theorem voH_val (h0 : IsRows x0 X 0) (h1 : IsRows x1 X 8176) (hv : IsMat wv Wv) (ho : IsMat wo Wo) (i : Fin 192) (e : Fin 768) :
    voH x0 x1 wv wo (ix2 i e) = ((VO X Wv Wo i e : ℝ) : EReal) := by
  rw [voH_apply, pay28_val ho _ i i fun c => vbdA_val h0 h1 hv i c]

theorem voW_val (h0 : IsRows x0 X 0) (h1 : IsRows x1 X 8176) (hv : IsMat wv Wv) (ho : IsMat wo Wo) (i : Fin 384) (e : Fin 768) :
    voW x0 x1 wv wo (ix2 i e) = ((VO X Wv Wo i e : ℝ) : EReal) := by
  rw [voW_apply]
  split
  · rename_i h
    exact pay28_val ho _ ⟨i.val, h⟩ i.val (fun c => vbdA_val h0 h1 hv ⟨i.val, h⟩ c) e
  · rename_i h
    refine pay28_val ho _ _ i.val (fun c => ?_) e
    rw [vbdB_val h0 h1 hv]
    have e : 192 + (i.val - 192) = i.val := by omega
    simp only [e]

theorem ggH_val (i' i : Fin 192) : (ggH : FVec Ideal S192x192 .f32) (ix2 i' i) = if headK i' = headK i then 1 else 0 := by
  rw [ggH_apply, Ideal.ofBits_one_f32, (col_first i i.isLt).1, (col_first i' i'.isLt).1]

theorem ggW_val (i' i : Fin 384) : (ggW : FVec Ideal S384x384 .f32) (ix2 i' i) = if headK i' = headK i then 1 else 0 := by
  rw [ggW_apply, Ideal.ofBits_one_f32]
  rfl

/-- A row of masked logits, with the matrix of equal heads and the prepared values, is the specification's sum over its
    columns. -/
theorem row_spec {n : ℕ} (hn : 192 ≤ n) (q e : ℕ) (l : Fin n → EReal)
    (hl : ∀ i, l i = lg (tokK i ≤ q) (L X Wq Wk q i)) (G : Fin n → Fin n → EReal)
    (hG : ∀ i' i, G i' i = if headK i' = headK i then 1 else 0) (vo : Fin n → EReal)
    (hvo : ∀ i, vo i = ((VO X Wv Wo i e : ℝ) : EReal)) :
    row l G vo = ((partSpec n X Wq Wk Wv Wo q e : ℝ) : EReal) := by
  have h := row_value (⟨0, by omega⟩ : Fin n) (fun i => tokK i ≤ q) (fun i => L X Wq Wk q i) (fun i => headK i)
    (fun i => ⟨⟨16 * headK i, by unfold headK; omega⟩, by simp only; unfold headK; omega,
      by simp only; unfold tokK headK; rw [if_pos (by omega)]; omega⟩) l hl G hG vo (fun i => VO X Wv Wo i e) hvo
  exact h

theorem logit_val {n : ℕ} (q : ℕ) (x : Fin 768 → EReal) (hx : ∀ c : Fin 768, x c = ((X q c : ℝ) : EReal))
    (qk : Fin 768 → EReal) (i : ℕ) (hqk : ∀ c : Fin 768, qk c = ((QK X Wq Wk c i : ℝ) : EReal)) :
    (∑ c : Fin 768, x c * qk c) = ((L X Wq Wk q i : ℝ) : EReal) := by
  rw [L, coe_sum]
  refine Finset.sum_congr rfl fun c _ => ?_
  rw [hx, hqk, ← EReal.coe_mul]

section Tiles

variable {x : Vec Ideal S1x2048x768 .f32} {o : ℕ}

/-- The first tile, masked causally over the first key tile. -/
theorem first_val (hx : IsRows x X 0) (h0 : IsRows x0 X 0) (h1 : IsRows x1 X 8176) (hq : IsMat wq Wq) (hk : IsMat wk Wk)
    (hv : IsMat wv Wv) (ho : IsMat wo Wo) (r : Fin 2048) (e : Fin 768) :
    k0_pay2 (k0_pay39 x (qkH x0 x1 wq wk) (ggH (F := Ideal)) (voH x0 x1 wv wo)) (ix3 0 r e)
      = ((spec X Wq Wk Wv Wo r e : ℝ) : EReal) := by
  rw [pay39_apply, ← partSpec_half _ _ _ _ _ _ _ (by omega : r.val < 8176)]
  refine row_spec (le_refl _) r e _ (fun i => ?_) _ ggH_val _ fun i => voH_val h0 h1 hv ho i e
  have ht : tokK i = i.val % 16 := by unfold tokK; rw [if_pos i.isLt]
  rw [logit_val (n := 192) r.val _ (fun c => (hx r c).trans (by rw [Nat.zero_add])) _ i.val fun c => qkH_val h0 h1 hq hk c i]
  unfold lg
  rw [ht]
  by_cases h : r.val < i.val % 16
  · rw [if_pos h, if_neg (by omega)]
  · rw [if_neg h, if_pos (by omega)]

/-- The rows of a later tile before the last sixteen tokens: every key of the first tile is visible, none of the last. -/
theorem stream_val (hx : IsRows x X o) (h0 : IsRows x0 X 0) (h1 : IsRows x1 X 8176) (hq : IsMat wq Wq) (hk : IsMat wk Wk)
    (hv : IsMat wv Wv) (ho : IsMat wo Wo) (r : Fin 2048) (e : Fin 768) (hlo : 16 ≤ o) (hr : o + r.val < 8176) :
    k0_pay3 x (qkH x0 x1 wq wk) (ggH (F := Ideal)) (voH x0 x1 wv wo) (ix3 0 r e)
      = ((spec X Wq Wk Wv Wo (o + r) e : ℝ) : EReal) := by
  rw [pay3_apply, ← partSpec_half _ _ _ _ _ _ _ hr]
  refine row_spec (le_refl _) (o + r) e _ (fun i => ?_) _ ggH_val _ fun i => voH_val h0 h1 hv ho i e
  have ht : tokK i = i.val % 16 := by unfold tokK; rw [if_pos i.isLt]
  rw [logit_val (n := 192) (o + r.val) _ (fun c => hx r c) _ i.val fun c => qkH_val h0 h1 hq hk c i]
  unfold lg
  rw [ht, if_pos (by omega)]

/-- The last sixteen rows, recomputed over both key tiles. -/
theorem fixup_val {y : Vec Ideal S1x16x768 .f32} (hy : IsRows y X 8176) (h0 : IsRows x0 X 0) (h1 : IsRows x1 X 8176)
    (hq : IsMat wq Wq) (hk : IsMat wk Wk) (hv : IsMat wv Wv) (ho : IsMat wo Wo) (r : Fin 16) (e : Fin 768) :
    fixup y (qkW x0 x1 wq wk) (ggW (F := Ideal)) (voW x0 x1 wv wo) (ix3 0 r e)
      = ((spec X Wq Wk Wv Wo (8176 + r) e : ℝ) : EReal) := by
  rw [fixup_apply]
  refine row_spec (by omega) (8176 + r) e _ (fun i => ?_) _ ggW_val _ fun i => voW_val h0 h1 hv ho i e
  rw [logit_val (n := 384) (8176 + r.val) _ (fun c => hy r c) _ i.val fun c => qkW_val h0 h1 hq hk c i]
  unfold lg
  by_cases h : 8176 + r.val < tokK i
  · rw [if_pos h, if_neg (by omega)]
  · rw [if_neg h, if_pos (by omega)]

end Tiles

/-! ## The whole result -/

/-- The input array holds the reals `X`. -/
def IsInput (x : Vec Ideal S2x8192x768 .f32) (X : ℕ → ℕ → ℕ → ℝ) : Prop :=
  ∀ (b : Fin 2) (s : Fin 8192) (c : Fin 768), x (ValueIdx.ix3 b s c) = ((X b s c : ℝ) : EReal)

theorem keysF_rows {x : Vec Ideal S2x8192x768 .f32} {X : ℕ → ℕ → ℕ → ℝ} (hx : IsInput x X) (b : Fin 2) :
    IsRows (keysF x b) (X b) 0 := fun r c => by
  rw [Nat.zero_add]; exact hx b ⟨r.val, by omega⟩ c

theorem keysL_rows {x : Vec Ideal S2x8192x768 .f32} {X : ℕ → ℕ → ℕ → ℝ} (hx : IsInput x X) (b : Fin 2) :
    IsRows (keysL x b) (X b) 8176 := fun r c => hx b ⟨8176 + r.val, by omega⟩ c

theorem rowsT_rows {x : Vec Ideal S2x8192x768 .f32} {X : ℕ → ℕ → ℕ → ℝ} (hx : IsInput x X) (b : Fin 2) (q : Fin 4) :
    IsRows (rowsT x b q) (X b) (2048 * q.val) := fun r c => hx b ⟨2048 * q.val + r.val, by omega⟩ c

theorem tail16_rows {x : Vec Ideal S1x2048x768 .f32} {X : ℕ → ℕ → ℝ} {o : ℕ} (hx : IsRows x X o) :
    IsRows (tail16 x) X (o + 2032) := fun r c => by
  have h := hx ⟨2032 + r.val, by omega⟩ c
  rw [ix3_eq_valueIdx] at h
  rw [Nat.add_assoc]
  exact h

/-- Every block of the result is the specification's rows. -/
theorem blk_val {x : Vec Ideal S2x8192x768 .f32} {X : ℕ → ℕ → ℕ → ℝ} (hx : IsInput x X)
    (hq : IsMat wq Wq) (hk : IsMat wk Wk) (hv : IsMat wv Wv) (ho : IsMat wo Wo) (b : Fin 2) (q : Fin 4) (r : Fin 2048) (e : Fin 768) :
    blk x wq wk wv wo b q (ix3 0 r e) = ((spec (X b) Wq Wk Wv Wo (2048 * q + r) e : ℝ) : EReal) := by
  have h0 := keysF_rows hx b
  have h1 := keysL_rows hx b
  have ht := rowsT_rows hx b q
  unfold blk
  split
  · rename_i h
    rw [h, Nat.mul_zero] at ht ⊢
    rw [first_val ht h0 h1 hq hk hv ho r e, Nat.zero_add]
  · split
    · rename_i h
      rw [h] at ht ⊢
      unfold outLast
      split
      · rename_i h'
        have h' : 2032 ≤ r.val := h'
        have hf := fixup_val (tail16_rows ht) h0 h1 hq hk hv ho ⟨r.val - 2032, by omega⟩ e
        rw [ix3_eq_valueIdx] at hf
        have e : 2048 * 3 + r.val = 8176 + (r.val - 2032) := by omega
        rw [e]
        exact hf
      · rename_i h'
        have h' : ¬2032 ≤ r.val := h'
        exact stream_val ht h0 h1 hq hk hv ho r e (by omega) (by omega)
    · exact stream_val ht h0 h1 hq hk hv ho r e (by omega) (by omega)

/-- The kernel's result array is the specification. -/
theorem res_val {x : Vec Ideal S2x8192x768 .f32} {X : ℕ → ℕ → ℕ → ℝ} (hx : IsInput x X)
    (hq : IsMat wq Wq) (hk : IsMat wk Wk) (hv : IsMat wv Wv) (ho : IsMat wo Wo) (b : Fin 2) (s : Fin 8192) (e : Fin 768) :
    res x wq wk wv wo (ValueIdx.ix3 b s e) = ((spec (X b) Wq Wk Wv Wo s e : ℝ) : EReal) := by
  have h := blk_val hx hq hk hv ho b ⟨s.val / 2048, by omega⟩ ⟨s.val % 2048, by omega⟩ e
  rw [ix3_eq_valueIdx] at h
  have e : 2048 * (s.val / 2048) + s.val % 2048 = s.val := by omega
  rw [← e]
  exact h

end Cert.KernelIdeal.Attn

end
-- ==== Proof.RefTokens.lean ====
module

public import proofs.«01_k».proof.Proof.Gen.ReferenceIdeal.Read
public import proofs.«01_k».proof.Proof.Spec
public import Idealize.ShloMosaic.Lib.ReduceAll

@[expose] public section

/-! The tokens the reference attends to: for every batch and head, the first and the last tile of sixteen. -/

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem Cert.Attn

/-- The tile numbers: 0 and 511. -/
theorem v12_table : ∀ (b : Fin 2) (h : Fin 12) (z : Fin 2),
    val_main_v12 (F := Ideal) (ValueIdx.ix3 b h z) = if z.val = 0 then 0#32 else 511#32 := by
  decide +kernel

theorem v12_val (i : S2x12x2.Idx) : val_main_v12 (F := Ideal) i = if (i 2).val = 0 then 0#32 else 511#32 := by
  conv_lhs => rw [ValueIdx.eq_ix3 i]
  exact v12_table (i 0) (i 1) (i 2)

/-- A tile's start plus a position in it. -/
theorem token_word : ∀ (z : Fin 2) (k : Fin 16),
    IntOp.addi (IntOp.muli (if z.val = 0 then 0#32 else 511#32) 16#32) (BitVec.ofNat 32 k.val)
      = BitVec.ofNat 32 (tokR (16 * z.val + k.val)) := by
  decide +kernel

theorem v20_val (i : S2x12x2x16.Idx) :
    val_main_v20 (F := Ideal) i = BitVec.ofNat 32 (tokR (16 * (i 2).val + (i 3).val)) := by
  rw [val_main_v20_apply, val_main_v18_apply, val_main_v17_apply, val_main_v15_apply, val_main_v16_apply, v12_val,
    val_main_v19_apply, val_main_v14_apply, val_main_v13_apply, val_main_c_2_apply]
  exact token_word (i 2) (i 3)

/-- The tokens themselves. -/
theorem v21_val (i : S2x12x32.Idx) : val_main_v21 (F := Ideal) i = BitVec.ofNat 32 (tokR (i 2).val) := by
  rw [val_main_v21_apply, v20_val]
  have h0 : (i 0).val < 2 := (i 0).isLt
  have h1 : (i 1).val < 12 := (i 1).isLt
  have h2 : (i 2).val < 32 := (i 2).isLt
  have e : 16 * ((((i 0).val * 12 + (i 1).val) * 32 + (i 2).val) / 16 % 2) + (((i 0).val * 12 + (i 1).val) * 32 + (i 2).val) % 16
      = (i 2).val := by omega
  exact congrArg (fun n => BitVec.ofNat 32 (tokR n)) e

/-- No token's word is negative, so the wrap of negative indices leaves it. -/
theorem wrap_word : ∀ j : Fin 32,
    Scalar.select (IntOp.cmpi .slt (BitVec.ofNat 32 (tokR j.val)) 0#32) (IntOp.addi (BitVec.ofNat 32 (tokR j.val)) 8192#32)
      (BitVec.ofNat 32 (tokR j.val)) = BitVec.ofNat 32 (tokR j.val) := by
  decide +kernel

/-- Every token's word lies within the array. -/
theorem bound_word : ∀ j : Fin 32,
    IntOp.andi (IntOp.cmpi .sge (BitVec.ofNat 32 (tokR j.val)) 0#32) (IntOp.cmpi .sle (BitVec.ofNat 32 (tokR j.val)) 8191#32)
      = 1#1 := by
  decide +kernel

/-- The clamp of a row number within the array leaves a token. -/
theorem clamp_word : ∀ j : Fin 32, min (BitVec.ofNat 32 (tokR j.val)).toInt.toNat (8192 - 1) = tokR j.val := by
  decide +kernel

theorem call0_v4_val (i : S2x12x32x1.Idx) : val_main_call0_v4 (F := Ideal) i = BitVec.ofNat 32 (tokR (i 2).val) := by
  rw [val_main_call0_v4_apply, val_main_call0_v1_apply, val_main_call0_v3_apply, val_main_v22_apply, v21_val,
    val_main_call0_v0_apply, val_main_call0_v2_apply, val_main_call0_c_apply, val_main_call0_c_0_apply]
  exact wrap_word (i 2)

theorem call1_v4_val (i : S2x12x32x1.Idx) : val_main_call1_v4 (F := Ideal) i = BitVec.ofNat 32 (tokR (i 2).val) := by
  rw [val_main_call1_v4_apply, val_main_call1_v1_apply, val_main_call1_v3_apply, val_main_v24_apply, v21_val,
    val_main_call1_v0_apply, val_main_call1_v2_apply, val_main_call1_c_apply, val_main_call1_c_0_apply]
  exact wrap_word (i 2)

theorem call0_v11_val (i : S2x12x32.Idx) : val_main_call0_v11 (F := Ideal) i = 1#1 := by
  unfold val_main_call0_v11
  refine Host.reduce_andi_one _ _ _ _ _ (val_main_call0_c_3_apply _) fun k => ?_
  rw [val_main_call0_v10_apply, val_main_call0_v6_apply, val_main_call0_v9_apply, call0_v4_val, val_main_call0_v5_apply,
    val_main_call0_v8_apply, val_main_call0_v7_apply, val_main_call0_c_1_apply, val_main_call0_c_2_apply]
  exact bound_word (k 2)

theorem call1_v11_val (i : S2x12x32.Idx) : val_main_call1_v11 (F := Ideal) i = 1#1 := by
  unfold val_main_call1_v11
  refine Host.reduce_andi_one _ _ _ _ _ (val_main_call1_c_3_apply _) fun k => ?_
  rw [val_main_call1_v10_apply, val_main_call1_v6_apply, val_main_call1_v9_apply, call1_v4_val, val_main_call1_v5_apply,
    val_main_call1_v8_apply, val_main_call1_v7_apply, val_main_call1_c_1_apply, val_main_call1_c_2_apply]
  exact bound_word (k 2)

theorem tokR_lt (j : Fin 32) : tokR j.val < 8192 := by
  have := j.isLt
  unfold tokR
  split <;> omega

/-- The gather of whole rows, one row number per batch, head and key, where the row numbers are the tokens. -/
theorem gather_rows {α : Type} (x : S2x12x8192x64.Idx → α) (idx : IVec S2x12x32x1 32)
    (hidx : ∀ i, idx i = BitVec.ofNat 32 (tokR (i 2).val)) (b : Fin 2) (h : Fin 12) (j : Fin 32) (d : Fin 64) :
    Host.gather gather_S2x12x8192x64_S2x12x32x1_S2x12x32x64_3_2_01_01_2_3_11164 x idx (ValueIdx.ix4 b h j d)
      = x (ValueIdx.ix4 b h (⟨tokR j.val, tokR_lt j⟩ : Fin 8192) d) := by
  unfold Host.gather
  congr 1
  funext a
  refine Fin.ext ?_
  match a with
  | ⟨0, _⟩ => show 0 + b.val + 0 = b.val; omega
  | ⟨1, _⟩ => show 0 + h.val + 0 = h.val; omega
  | ⟨2, _⟩ =>
    refine Eq.trans ?_ (clamp_word j)
    show min (idx _).toInt.toNat (8192 - 1) + 0 + 0 = _
    rw [hidx]
    rfl
  | ⟨3, _⟩ => show 0 + 0 + d.val = d.val; omega

/-- The gathered keys. -/
theorem v23_val (x0 : Vec Ideal S2x8192x768 .f32) (x2 : Vec Ideal S768x768 .f32) (b : Fin 2) (h : Fin 12) (j : Fin 32) (d : Fin 64) :
    val_main_v23 (F := Ideal) x0 x2 (ValueIdx.ix4 b h j d)
      = val_main_v7 (F := Ideal) x0 x2 (ValueIdx.ix4 b h (⟨tokR j.val, tokR_lt j⟩ : Fin 8192) d) := by
  rw [val_main_v23_apply, val_main_call0_v13_apply, call0_v11_val]
  rw [ValueIdx.select_one]
  exact gather_rows _ _ call0_v4_val b h j d

/-- The gathered values. -/
theorem v25_val (x0 : Vec Ideal S2x8192x768 .f32) (x3 : Vec Ideal S768x768 .f32) (b : Fin 2) (h : Fin 12) (j : Fin 32) (d : Fin 64) :
    val_main_v25 (F := Ideal) x0 x3 (ValueIdx.ix4 b h j d)
      = val_main_v8 (F := Ideal) x0 x3 (ValueIdx.ix4 b h (⟨tokR j.val, tokR_lt j⟩ : Fin 8192) d) := by
  rw [val_main_v25_apply, val_main_call1_v13_apply, call1_v11_val]
  rw [ValueIdx.select_one]
  exact gather_rows _ _ call1_v4_val b h j d

end Cert.ReferenceIdeal.Attn

end
-- ==== Proof.RefValue.lean ====
module

public import proofs.«01_k».proof.Proof.RefTokens
public import proofs.«01_k».proof.Proof.Words
public import Idealize.ShloMosaic.Lib.IdealHost

@[expose] public section

/-! For real inputs the reference's result is real, and it is `refSpec`. -/

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem Cert.Attn

/-- The input array holds the reals `X`. -/
def IsArr (x : Vec Ideal S2x8192x768 .f32) (X : ℕ → ℕ → ℕ → ℝ) : Prop :=
  ∀ i : S2x8192x768.Idx, x i = ((X (i 0).val (i 1).val (i 2).val : ℝ) : EReal)

/-- A weight matrix holds the reals `M`. -/
def IsMat (w : Vec Ideal S768x768 .f32) (M : ℕ → ℕ → ℝ) : Prop :=
  ∀ i : S768x768.Idx, w i = ((M (i 0).val (i 1).val : ℝ) : EReal)

variable {x0 : Vec Ideal S2x8192x768 .f32} {x1 x2 x3 x4 : Vec Ideal S768x768 .f32}
variable {X : ℕ → ℕ → ℕ → ℝ} {Wq Wk Wv Wo : ℕ → ℕ → ℝ}

theorem v0_val (hx : IsArr x0 X) (hw : IsMat x1 Wq) (i : S2x8192x768.Idx) :
    val_main_v0 (F := Ideal) x0 x1 i = ((proj (X (i 0).val) Wq (i 1).val (i 2).val : ℝ) : EReal) := by
  rw [val_main_v0_apply, proj, coe_sum]
  refine Finset.sum_congr rfl fun k _ => ?_
  rw [hx, hw, ← EReal.coe_mul]

theorem v2_val (hx : IsArr x0 X) (hw : IsMat x2 Wk) (i : S2x8192x768.Idx) :
    val_main_v2 (F := Ideal) x0 x2 i = ((proj (X (i 0).val) Wk (i 1).val (i 2).val : ℝ) : EReal) := by
  rw [val_main_v2_apply, proj, coe_sum]
  refine Finset.sum_congr rfl fun k _ => ?_
  rw [hx, hw, ← EReal.coe_mul]

theorem v4_val (hx : IsArr x0 X) (hw : IsMat x3 Wv) (i : S2x8192x768.Idx) :
    val_main_v4 (F := Ideal) x0 x3 i = ((proj (X (i 0).val) Wv (i 1).val (i 2).val : ℝ) : EReal) := by
  rw [val_main_v4_apply, proj, coe_sum]
  refine Finset.sum_congr rfl fun k _ => ?_
  rw [hx, hw, ← EReal.coe_mul]

/-- Splitting the columns into heads reads column `64 * h + d`. -/
theorem split_idx (f : ℕ → ℕ → ℕ → ℝ) (b h s d : ℕ) (hb : b < 2) (hh : h < 12) (hs : s < 8192) (hd : d < 64) :
    f ((((b * 8192 + s) * 12 + h) * 64 + d) / 6291456) ((((b * 8192 + s) * 12 + h) * 64 + d) / 768 % 8192)
      ((((b * 8192 + s) * 12 + h) * 64 + d) % 768) = f b s (64 * h + d) := by
  have e0 : (((b * 8192 + s) * 12 + h) * 64 + d) / 6291456 = b := by omega
  have e1 : (((b * 8192 + s) * 12 + h) * 64 + d) / 768 % 8192 = s := by omega
  have e2 : (((b * 8192 + s) * 12 + h) * 64 + d) % 768 = 64 * h + d := by omega
  rw [e0, e1, e2]

theorem v6_val (hx : IsArr x0 X) (hw : IsMat x1 Wq) (i : S2x12x8192x64.Idx) :
    val_main_v6 (F := Ideal) x0 x1 i
      = ((proj (X (i 0).val) Wq (i 2).val (64 * (i 1).val + (i 3).val) : ℝ) : EReal) := by
  rw [val_main_v6_apply, val_main_v1_apply, v0_val hx hw]
  exact congrArg _ (split_idx (fun b s c => proj (X b) Wq s c) _ _ _ _ (i 0).isLt (i 1).isLt (i 2).isLt (i 3).isLt)

theorem v7_val (hx : IsArr x0 X) (hw : IsMat x2 Wk) (i : S2x12x8192x64.Idx) :
    val_main_v7 (F := Ideal) x0 x2 i
      = ((proj (X (i 0).val) Wk (i 2).val (64 * (i 1).val + (i 3).val) : ℝ) : EReal) := by
  rw [val_main_v7_apply, val_main_v3_apply, v2_val hx hw]
  exact congrArg _ (split_idx (fun b s c => proj (X b) Wk s c) _ _ _ _ (i 0).isLt (i 1).isLt (i 2).isLt (i 3).isLt)

theorem v8_val (hx : IsArr x0 X) (hw : IsMat x3 Wv) (i : S2x12x8192x64.Idx) :
    val_main_v8 (F := Ideal) x0 x3 i
      = ((proj (X (i 0).val) Wv (i 2).val (64 * (i 1).val + (i 3).val) : ℝ) : EReal) := by
  rw [val_main_v8_apply, val_main_v5_apply, v4_val hx hw]
  exact congrArg _ (split_idx (fun b s c => proj (X b) Wv s c) _ _ _ _ (i 0).isLt (i 1).isLt (i 2).isLt (i 3).isLt)

/-- The gathered keys at the tokens. -/
theorem keys_val (hx : IsArr x0 X) (hw : IsMat x2 Wk) (i : S2x12x32x64.Idx) :
    val_main_v23 (F := Ideal) x0 x2 i
      = ((proj (X (i 0).val) Wk (tokR (i 2).val) (64 * (i 1).val + (i 3).val) : ℝ) : EReal) := by
  refine (congrArg (val_main_v23 (F := Ideal) x0 x2) (ValueIdx.eq_ix4 i)).trans ?_
  refine (v23_val x0 x2 (i 0) (i 1) (i 2) (i 3)).trans ?_
  exact v7_val hx hw _

/-- The gathered values at the tokens. -/
theorem values_val (hx : IsArr x0 X) (hw : IsMat x3 Wv) (i : S2x12x32x64.Idx) :
    val_main_v25 (F := Ideal) x0 x3 i
      = ((proj (X (i 0).val) Wv (tokR (i 2).val) (64 * (i 1).val + (i 3).val) : ℝ) : EReal) := by
  refine (congrArg (val_main_v25 (F := Ideal) x0 x3) (ValueIdx.eq_ix4 i)).trans ?_
  refine (v25_val x0 x3 (i 0) (i 1) (i 2) (i 3)).trans ?_
  exact v8_val hx hw _

theorem ofBits_64 : Ideal.ofBits .f32 0x42800000#32 = ((64 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

/-- The divisor: the root of 64 is 8. -/
theorem v27_val (i : S_.Idx) : val_main_v27 (F := Ideal) i = ((8 : ℝ) : EReal) := by
  rw [val_main_v27_apply, val_main_cst_apply]
  show Ideal.sqrt (Ideal.ofBits .f32 0x42800000#32) = _
  rw [ofBits_64, Ideal.sqrt_coe, if_neg (by norm_num)]
  congr 1
  rw [show (64 : ℝ) = 8 ^ 2 by norm_num]
  exact Real.sqrt_sq (by norm_num)

/-- The scaled logits. -/
theorem v29_val (hx : IsArr x0 X) (hq : IsMat x1 Wq) (hk : IsMat x2 Wk) (i : S2x12x8192x32.Idx) :
    val_main_v29 (F := Ideal) x0 x1 x2 i
      = ((LR (X (i 0).val) Wq Wk (i 2).val (i 1).val (i 3).val : ℝ) : EReal) := by
  rw [val_main_v29_apply, val_main_v28_apply, v27_val, val_main_v26_apply]
  show Ideal.div _ _ = _
  rw [Ideal.div_coe (by norm_num), LR, div_eq_mul_one_div (Finset.sum _ _) (8 : ℝ), EReal.coe_mul, coe_sum]
  congr 1
  refine Finset.sum_congr rfl fun k _ => ?_
  rw [v6_val hx hq, keys_val hx hk, ← EReal.coe_mul]

/-- The masked logits. -/
theorem v36_val (hx : IsArr x0 X) (hq : IsMat x1 Wq) (hk : IsMat x2 Wk) (i : S2x12x8192x32.Idx) :
    val_main_v36 (F := Ideal) x0 x1 x2 i
      = lg (tokR (i 3).val ≤ (i 2).val) (LR (X (i 0).val) Wq Wk (i 2).val (i 1).val (i 3).val) := by
  rw [val_main_v36_apply, val_main_v35_apply, val_main_v33_apply, val_main_v32_apply, v21_val, val_main_v34_apply,
    val_main_v31_apply, val_main_v30_apply, val_main_call2_v1_apply, val_main_call2_v0_apply, val_main_cst_3_apply,
    v29_val hx hq hk]
  have h2 : (i 2).val < 8192 := (i 2).isLt
  have h3 : tokR (i 3).val < 8192 := tokR_lt (i 3)
  refine (Cert.KernelIdeal.Attn.select_sgt (tokR (i 3).val) (i 2).val (by omega) (by omega) _ _).trans ?_
  unfold lg
  by_cases h : (i 2).val < tokR (i 3).val
  · rw [if_pos h, if_neg (by omega)]
    exact ofBits_neg_inf
  · rw [if_neg h, if_pos (by omega)]

/-- One row of masked logits. -/
def logits (X Wq Wk : ℕ → ℕ → ℝ) (q h : ℕ) (j : Fin 32) : EReal := lg (tokR j.val ≤ q) (LR X Wq Wk q h j.val)

/-- A row's largest logit. -/
theorem v37_val (hx : IsArr x0 X) (hq : IsMat x1 Wq) (hk : IsMat x2 Wk) (i : S2x12x8192.Idx) :
    val_main_v37 (F := Ideal) x0 x1 x2 i
      = Finset.univ.fold max ⊥ (logits (X (i 0).val) Wq Wk (i 2).val (i 1).val) := by
  unfold val_main_v37
  have hm : (FloatOps.maximumf : Ideal .f32 → Ideal .f32 → Ideal .f32) = (max : EReal → EReal → EReal) := rfl
  rw [hm, Host.reduce_eq_fold_single (max : EReal → EReal → EReal) _ _ reducesTo_S2x12x8192x32_S2x12x8192_d3 (by decide) h_S_ i,
    val_main_cst_4_apply]
  show Finset.fold max (Ideal.ofBits .f32 0xFF800000#32) _ _ = _
  rw [ofBits_neg_inf]
  refine congrArg (fun g => Finset.fold max (⊥ : EReal) g (Finset.univ : Finset (Fin 32))) (funext fun k => ?_)
  exact v36_val hx hq hk _

theorem v39_val (hx : IsArr x0 X) (hq : IsMat x1 Wq) (hk : IsMat x2 Wk) (i : S2x12x8192.Idx) :
    val_main_v39 (F := Ideal) x0 x1 x2 i
      = Finset.univ.fold max ⊥ (logits (X (i 0).val) Wq Wk (i 2).val (i 1).val) := by
  rw [val_main_v39_apply, val_main_v38_apply, val_main_cst_5_apply, v37_val hx hq hk]
  show max (Ideal.ofBits .f32 0xFF800000#32) _ = _
  rw [ofBits_neg_inf]
  exact max_eq_right bot_le

/-- The exponentials. -/
theorem v43_val (hx : IsArr x0 X) (hq : IsMat x1 Wq) (hk : IsMat x2 Wk) (i : S2x12x8192x32.Idx) :
    val_main_v43 (F := Ideal) x0 x1 x2 i
      = Ideal.exp (logits (X (i 0).val) Wq Wk (i 2).val (i 1).val (i 3)
          - Finset.univ.fold max ⊥ (logits (X (i 0).val) Wq Wk (i 2).val (i 1).val)) := by
  rw [val_main_v43_apply, val_main_v42_apply, val_main_v41_apply, val_main_v40_apply, v39_val hx hq hk, v36_val hx hq hk]
  rfl

/-- The softmax weights. -/
theorem v47_val (hx : IsArr x0 X) (hq : IsMat x1 Wq) (hk : IsMat x2 Wk) (i : S2x12x8192x32.Idx) :
    val_main_v47 (F := Ideal) x0 x1 x2 i
      = ((PR (X (i 0).val) Wq Wk (i 2).val (i 1).val (i 3).val : ℝ) : EReal) := by
  rw [val_main_v47_apply, val_main_v46_apply, val_main_v45_apply, val_main_v44_apply, v43_val hx hq hk, val_main_cst_6_apply]
  have h := softmax_value (fun j : Fin 32 => tokR j.val ≤ (i 2).val)
    (fun j : Fin 32 => LR (X (i 0).val) Wq Wk (i 2).val (i 1).val j.val) 0 (Nat.zero_le _)
    (logits (X (i 0).val) Wq Wk (i 2).val (i 1).val) (fun _ => rfl) (i 3)
  refine Eq.trans ?_ h
  show Ideal.div _ (Ideal.ofBits .f32 0x00000000#32 + _) = _
  rw [Ideal.ofBits_zero_f32, zero_add]
  refine congrArg (Ideal.div _) (Finset.sum_congr rfl fun k _ => ?_)
  exact v43_val hx hq hk _

/-- One head's output. -/
theorem v48_val (hx : IsArr x0 X) (hq : IsMat x1 Wq) (hk : IsMat x2 Wk) (hv : IsMat x3 Wv) (i : S2x12x8192x64.Idx) :
    val_main_v48 (F := Ideal) x0 x1 x2 x3 i
      = ((∑ j : Fin 32, PR (X (i 0).val) Wq Wk (i 2).val (i 1).val j.val
          * proj (X (i 0).val) Wv (tokR j.val) (64 * (i 1).val + (i 3).val) : ℝ) : EReal) := by
  rw [val_main_v48_apply, coe_sum]
  refine Finset.sum_congr rfl fun k _ => ?_
  rw [v47_val hx hq hk, values_val hx hv, ← EReal.coe_mul]

/-- Joining the heads reads head `c / 64` at `c % 64`. -/
theorem join_idx (f : ℕ → ℕ → ℕ → ℕ → ℝ) (b s c : ℕ) (hb : b < 2) (hs : s < 8192) (hc : c < 768) :
    f (((b * 8192 + s) * 768 + c) / 6291456) (((b * 8192 + s) * 768 + c) / 768 % 8192) (((b * 8192 + s) * 768 + c) / 64 % 12)
      (64 * (((b * 8192 + s) * 768 + c) / 64 % 12) + ((b * 8192 + s) * 768 + c) % 64) = f b s (c / 64) c := by
  have e0 : ((b * 8192 + s) * 768 + c) / 6291456 = b := by omega
  have e1 : ((b * 8192 + s) * 768 + c) / 768 % 8192 = s := by omega
  have e2 : ((b * 8192 + s) * 768 + c) / 64 % 12 = c / 64 := by omega
  have e3 : 64 * (c / 64) + ((b * 8192 + s) * 768 + c) % 64 = c := by omega
  rw [e0, e1, e2, e3]

/-- The heads' outputs side by side. -/
theorem v50_val (hx : IsArr x0 X) (hq : IsMat x1 Wq) (hk : IsMat x2 Wk) (hv : IsMat x3 Wv) (i : S2x8192x768.Idx) :
    val_main_v50 (F := Ideal) x0 x1 x2 x3 i
      = ((∑ j : Fin 32, PR (X (i 0).val) Wq Wk (i 1).val ((i 2).val / 64) j.val
          * proj (X (i 0).val) Wv (tokR j.val) (i 2).val : ℝ) : EReal) := by
  rw [val_main_v50_apply, val_main_v49_apply, v48_val hx hq hk hv]
  exact congrArg _ (join_idx (fun b s h c => ∑ j : Fin 32, PR (X b) Wq Wk s h j.val * proj (X b) Wv (tokR j.val) c)
    _ _ _ (i 0).isLt (i 1).isLt (i 2).isLt)

/-- The reference's result is `refSpec`. -/
theorem v51_val (hx : IsArr x0 X) (hq : IsMat x1 Wq) (hk : IsMat x2 Wk) (hv : IsMat x3 Wv) (ho : IsMat x4 Wo)
    (i : S2x8192x768.Idx) :
    val_main_v51 (F := Ideal) x0 x1 x2 x3 x4 i
      = ((refSpec (X (i 0).val) Wq Wk Wv Wo (i 1).val (i 2).val : ℝ) : EReal) := by
  rw [val_main_v51_apply, refSpec, coe_sum]
  refine Finset.sum_congr rfl fun k _ => ?_
  rw [v50_val hx hq hk hv, ho, ← EReal.coe_mul]

end Cert.ReferenceIdeal.Attn

end
-- ==== Proof.Finite.lean ====
module

public import proofs.«01_k».proof.Pre_finite
public import Idealize.ShloMosaic.Lib.ReduceAll
public import Idealize.ShloMosaic.PureOps.Ideal.Laws

@[expose] public section

/-! The precondition says that every element of every argument is a real number. -/

set_option maxRecDepth 16384

noncomputable section

namespace Cert.Pre_finite.Attn

open Cert.Pre_finite Idealize.ShloMosaic

variable [Cert.Pre_finite.Facts]

theorem ofBits_inf : Ideal.ofBits .f32 0x7F800000#32 = (⊤ : EReal) := by
  simp [Ideal.ofBits, Ideal.ieee]

/-- An element whose absolute value is below `⊤` is a real number. -/
theorem elem_real (a : EReal) (h : Ideal.cmp .olt (max a (-a)) ⊤ = 1#1) : a = ((a.toReal : ℝ) : EReal) := by
  induction a using EReal.rec with
  | bot => simp [Ideal.cmp] at h
  | top => simp [Ideal.cmp] at h
  | coe r => rfl

/-- An array whose comparisons with `⊤` are all ones holds real numbers. -/
theorem array_real {s : Shape} {axes : List (Fin s.rank)} (a : FVec Ideal s .f32) (hb : S_.BroadcastsInDim s (![] : Fin 0 → Fin s.rank))
    (hr : s.ReducesTo axes S_) (hu : 0 < S_.numel) (j : S_.Idx)
    (h : Host.reduce IntOp.andi (cmpf .olt (Host.absf a) (broadcastInDim s ![] hb (constant (F := Ideal) S_ .f32 0x7F800000#32)))
      (constantI S_ 1 1#1) hr hu j = 1#1) (i : s.Idx) : a i = (((a i : EReal).toReal : ℝ) : EReal) := by
  haveI : Subsingleton S_.Idx := ⟨fun x y => funext fun k => k.elim0⟩
  have e := Host.reduce_andi_all _ _ hr hu j h i
  refine elem_real (a i) ?_
  rw [← ofBits_inf]
  exact e

/-- All five arguments hold real numbers. -/
theorem args_real (a0 : FVec Ideal S2x8192x768 .f32) (a1 a2 a3 a4 : FVec Ideal S768x768 .f32)
    (h : Cert.Pre_finite.fn (F := Ideal) a0 a1 a2 a3 a4 = fun _ => 1#1) :
    (∀ i, a0 i = (((a0 i : EReal).toReal : ℝ) : EReal)) ∧ (∀ i, a1 i = (((a1 i : EReal).toReal : ℝ) : EReal))
      ∧ (∀ i, a2 i = (((a2 i : EReal).toReal : ℝ) : EReal)) ∧ (∀ i, a3 i = (((a3 i : EReal).toReal : ℝ) : EReal))
      ∧ (∀ i, a4 i = (((a4 i : EReal).toReal : ℝ) : EReal)) := by
  have e := congrFun h (fun k => k.elim0 : S_.Idx)
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨array_real a0 _ _ _ _ h0, array_real a1 _ _ _ _ h1, array_real a2 _ _ _ _ h2, array_real a3 _ _ _ _ h3,
    array_real a4 _ _ _ _ h4⟩

end Cert.Pre_finite.Attn

end
-- ==== Proof.Equation.lean ====
module

public import proofs.«01_k».proof.Proof.BlockValue
public import proofs.«01_k».proof.Proof.RefValue
public import proofs.«01_k».proof.Proof.Finite
public import proofs.«01_k».proof.Proof.Spec

@[expose] public section

/-! The equation: on finite arguments the kernel's result array and the reference's are the same array. -/

set_option maxRecDepth 16384

noncomputable section

namespace Cert.Equation

open Idealize.ShloMosaic Cert.Attn

/-- The reals an input array holds, as a function of three numbers (zero outside the array). -/
def arrOf (x : Vec Ideal KernelIdeal.S2x8192x768 .f32) (b s c : ℕ) : ℝ :=
  if h : b < 2 ∧ s < 8192 ∧ c < 768 then (x (ValueIdx.ix3 ⟨b, h.1⟩ ⟨s, h.2.1⟩ ⟨c, h.2.2⟩) : EReal).toReal else 0

/-- The reals a weight matrix holds, as a function of two numbers (zero outside the matrix). -/
def matOf (w : Vec Ideal KernelIdeal.S768x768 .f32) (a b : ℕ) : ℝ :=
  if h : a < 768 ∧ b < 768 then (w (ValueIdx.ix2 ⟨a, h.1⟩ ⟨b, h.2⟩) : EReal).toReal else 0

variable {x : Vec Ideal KernelIdeal.S2x8192x768 .f32} {w : Vec Ideal KernelIdeal.S768x768 .f32}

/-- An array without infinities holds `arrOf`, read at three coordinates. -/
theorem isInput (h : ∀ i, x i = (((x i : EReal).toReal : ℝ) : EReal)) : KernelIdeal.Attn.IsInput x (arrOf x) := fun b s c => by
  rw [arrOf, dif_pos ⟨b.isLt, s.isLt, c.isLt⟩]; exact h _

/-- An array without infinities holds `arrOf`, read at an index. -/
theorem isArr (h : ∀ i, x i = (((x i : EReal).toReal : ℝ) : EReal)) : ReferenceIdeal.Attn.IsArr x (arrOf x) := fun i =>
  (congrArg x (ValueIdx.eq_ix3 i)).trans (isInput h (i 0) (i 1) (i 2))

/-- An entry of a matrix without infinities is `matOf`'s. -/
theorem mat_entry (h : ∀ i, w i = (((w i : EReal).toReal : ℝ) : EReal)) (a b : Fin 768) :
    w (ValueIdx.ix2 a b) = ((matOf w a b : ℝ) : EReal) := by
  rw [matOf, dif_pos ⟨a.isLt, b.isLt⟩]; exact h _

/-- A matrix without infinities holds `matOf`, read at two coordinates. -/
theorem isMat (h : ∀ i, w i = (((w i : EReal).toReal : ℝ) : EReal)) : KernelIdeal.Attn.IsMat w (matOf w) := fun a b =>
  (congrArg w (ix2_eq_valueIdx a b)).trans (mat_entry h a b)

/-- A matrix without infinities holds `matOf`, read at an index. -/
theorem isMat' (h : ∀ i, w i = (((w i : EReal).toReal : ℝ) : EReal)) : ReferenceIdeal.Attn.IsMat w (matOf w) := fun i =>
  (congrArg w (ValueIdx.eq_ix2 i)).trans (mat_entry h (i 0) (i 1))

/-- On finite arguments the array the kernel's blocks make up is the reference's result. -/
theorem res_eq [Pre_finite.Facts] (x : Vec Ideal KernelIdeal.S2x8192x768 .f32) (wq wk wv wo : Vec Ideal KernelIdeal.S768x768 .f32)
    (h : Pre_finite.fn (F := Ideal) x wq wk wv wo = fun _ => 1#1) :
    ReferenceIdeal.Read.val_main_v51 (F := Ideal) x wq wk wv wo = KernelIdeal.Attn.res x wq wk wv wo := by
  obtain ⟨hx, hq, hk, hv, ho⟩ := Pre_finite.Attn.args_real x wq wk wv wo h
  funext i
  refine (ReferenceIdeal.Attn.v51_val (isArr hx) (isMat' hq) (isMat' hk) (isMat' hv) (isMat' ho) i).trans ?_
  rw [refSpec_eq]
  exact ((congrArg (KernelIdeal.Attn.res x wq wk wv wo) (ValueIdx.eq_ix3 i)).trans
    (KernelIdeal.Attn.res_val (isInput hx) (isMat hq) (isMat hk) (isMat hv) (isMat ho) (i 0) (i 1) (i 2))).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.State
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference, read at any memory: it terminates, leaves its arguments unchanged, and every counter ends at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

/-- The same under the precondition. -/
theorem reference_frame_finite : Cert.quiescent_ReferenceIdeal_pre_finite (hReferenceIdeal := Cert.ReferenceIdeal.Gen.facts)
    (hPre_finite := Cert.Pre_finite.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

/-- From memories that agree on finite arguments, the idealized kernel and the reference end with the same array. -/
theorem value_claim : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hp ha =>
  ⟨fun c => Cert.KernelIdeal.Value.G7 m c, Cert.KernelIdeal.Value.run m g,
    (θ_run Cert.ReferenceIdeal.defs _ _).mono (fun r h c => ⟨(h c).1.trans (by
      obtain ⟨h0, h1, h2, h3, h4⟩ := ha c
      rw [Cert.ReferenceIdeal.Read.val_main_v51_eq, h0, h1, h2, h3, h4]
      exact (@Cert.Equation.res_eq Cert.Pre_finite.Gen.facts _ _ _ _ _ (hp c)).trans (Cert.KernelIdeal.Attn.G7_eq m c).symm), (h c).2⟩)
      (Cert.ReferenceIdeal.Value.run (F := Ideal) m' g')⟩

/-- Everything the certificate claims. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, reference_frame_finite, IdealRules.named_const.statement Cert.KernelIdeal.κ "mask" .f32 0xD01502F9#32 ⊥ rfl, value_claim⟩

end Cert.Proof

end
